-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_at_start [hPre_at_start : Cert.Pre_at_start.Facts] (m : (ℓ : Loc Cert.KernelIdeal.nD Cert.KernelIdeal.τ Cert.KernelIdeal.sig) → Buf (Elt Ideal) ℓ) : Prop :=
  ∀ c : Dev Cert.KernelIdeal.nD,
    (Cert.Pre_at_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_at_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_at_start.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_at_start [hPre_at_start : Cert.Pre_at_start.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_at_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_at_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_at_start.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_at_start [hKernelIdeal : Cert.KernelIdeal.Facts] [hPre_at_start : Cert.Pre_at_start.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_at_start m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_at_start [hReferenceIdeal : Cert.ReferenceIdeal.Facts] [hPre_at_start : Cert.Pre_at_start.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_at_start m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_at_start [hKernelIdeal : Cert.KernelIdeal.Facts] [hReferenceIdeal : Cert.ReferenceIdeal.Facts] [hPre_at_start : Cert.Pre_at_start.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_at_start m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_at_start : Cert.Pre_at_start.Facts),
    quiescent_Kernel (hKernel := hKernel)
    ∧ quiescent_KernelIdeal (hKernelIdeal := hKernelIdeal)
    ∧ quiescent_KernelIdeal_pre_at_start (hKernelIdeal := hKernelIdeal) (hPre_at_start := hPre_at_start)
    ∧ quiescent_ReferenceIdeal (hReferenceIdeal := hReferenceIdeal)
    ∧ quiescent_ReferenceIdeal_pre_at_start (hReferenceIdeal := hReferenceIdeal) (hPre_at_start := hPre_at_start)
    ∧ preserves_Kernel_KernelIdeal
    ∧ algebraic_KernelIdeal_ReferenceIdeal_pre_at_start (hKernelIdeal := hKernelIdeal) (hReferenceIdeal := hReferenceIdeal) (hPre_at_start := hPre_at_start)
-- ==== Pre_at_start.lean ====
abbrev S4x2048 : Shape := ⟨2, ![4, 2048]⟩
abbrev S4096x4x2048 : Shape := ⟨3, ![4096, 4, 2048]⟩
abbrev S4x1 : Shape := ⟨2, ![4, 1]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S_ : Shape := ⟨0, ![]⟩

class Facts : Prop where
  bcast_S_S4x1 : S_.BroadcastsInDim S4x1 (![] : Fin 0 → Fin S4x1.rank)
  bcast_S_S2048x1 : S_.BroadcastsInDim S2048x1 (![] : Fin 0 → Fin S2048x1.rank)
  bcast_S_S1 : S_.BroadcastsInDim S1 (![] : Fin 0 → Fin S1.rank)

variable [Facts]

def fn {F : FTy → Type} [FloatOps F] (main_arg0 : FVec F S4x2048 .f32) (main_arg1 : FVec F S4096x4x2048 .f32) (main_arg2 : IVec S4x1 32) (main_arg3 : FVec F S2048x2048 .f32) (main_arg4 : FVec F S2048 .f32) (main_arg5 : FVec F S2048x2048 .f32) (main_arg6 : FVec F S2048 .f32) (main_arg7 : FVec F S2048x1 .f32) (main_arg8 : FVec F S1 .f32) : IVec S4x1 1 × IVec S2048x1 1 × IVec S1 1 :=
  let main_c : IVec S_ 32 := constantI S_ 32 0#32
  let main_v0 : IVec S4x1 32 := broadcastInDim S4x1 ![] bcast_S_S4x1 main_c
  let main_v1 : IVec S4x1 1 := cmpi .eq main_arg2 main_v0
  let main_v2 : FVec F S2048x1 .f32 := Host.absf main_arg7
  let main_cst : FVec F S_ .f32 := constant S_ .f32 0x7F800000#32
  let main_v3 : FVec F S2048x1 .f32 := broadcastInDim S2048x1 ![] bcast_S_S2048x1 main_cst
  let main_v4 : IVec S2048x1 1 := cmpf .olt main_v2 main_v3
  let main_v5 : FVec F S1 .f32 := Host.absf main_arg8
  let main_cst_0 : FVec F S_ .f32 := constant S_ .f32 0x7F800000#32
  let main_v6 : FVec F S1 .f32 := broadcastInDim S1 ![] bcast_S_S1 main_cst_0
  let main_v7 : IVec S1 1 := cmpf .olt main_v5 main_v6
  (main_v1, main_v4, main_v7)
-- ==== Kernel.lean ====
abbrev S4x2048 : Shape := ⟨2, ![4, 2048]⟩
abbrev S4096x4x2048 : Shape := ⟨3, ![4096, 4, 2048]⟩
abbrev S4x1 : Shape := ⟨2, ![4, 1]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S1024x4 : Shape := ⟨2, ![1024, 4]⟩
abbrev S4x1024 : Shape := ⟨2, ![4, 1024]⟩
abbrev S1x2048 : Shape := ⟨2, ![1, 2048]⟩
abbrev S1024 : Shape := ⟨1, ![1024]⟩
abbrev S_ : Shape := ⟨0, ![]⟩
abbrev S1024x1 : Shape := ⟨2, ![1024, 1]⟩
abbrev S256 : Shape := ⟨1, ![256]⟩
abbrev S1x256 : Shape := ⟨2, ![1, 256]⟩
abbrev S1024x256 : Shape := ⟨2, ![1024, 256]⟩
abbrev S4x512 : Shape := ⟨2, ![4, 512]⟩
abbrev S256x4x2048 : Shape := ⟨3, ![256, 4, 2048]⟩
abbrev S2048x1024 : Shape := ⟨2, ![2048, 1024]⟩
abbrev S1x1024 : Shape := ⟨2, ![1, 1024]⟩
abbrev S1024x2048 : Shape := ⟨2, ![1024, 2048]⟩
abbrev S1024x1024 : Shape := ⟨2, ![1024, 1024]⟩
abbrev S1x1024x1 : Shape := ⟨3, ![1, 1024, 1]⟩
abbrev S1x1x1 : Shape := ⟨3, ![1, 1, 1]⟩
abbrev S1x4x1 : Shape := ⟨3, ![1, 4, 1]⟩
abbrev S4x256 : Shape := ⟨2, ![4, 256]⟩
abbrev S4x512x1 : Shape := ⟨3, ![4, 512, 1]⟩

abbrev nBuf : Space → Nat
  | .hbm => 27
  | .vmem => 17
  | .smem => 0
  | _ => 0

abbrev bufTy : (tb : Table) → Fin (tcTables nBuf tb) → BufTy
  | .hbm, ⟨0, _⟩ => ⟨S4x2048, .f32⟩
  | .hbm, ⟨1, _⟩ => ⟨S4096x4x2048, .f32⟩
  | .hbm, ⟨2, _⟩ => ⟨S4x1, .i32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x1, .f32⟩
  | .hbm, ⟨8, _⟩ => ⟨S1, .f32⟩
  | .hbm, ⟨9, _⟩ => ⟨S1024x4, .f32⟩
  | .hbm, ⟨10, _⟩ => ⟨S4x1024, .f32⟩
  | .hbm, ⟨11, _⟩ => ⟨S2048, .f32⟩
  | .hbm, ⟨12, _⟩ => ⟨S1x2048, .f32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S256, .i32⟩
  | .hbm, ⟨19, _⟩ => ⟨S1x256, .i32⟩
  | .hbm, ⟨20, _⟩ => ⟨S1024x256, .i32⟩
  | .hbm, ⟨21, _⟩ => ⟨S1024x256, .i32⟩
  | .hbm, ⟨22, _⟩ => ⟨S1024x256, .i1⟩
  | .hbm, ⟨23, _⟩ => ⟨S1024x256, .f32⟩
  | .hbm, ⟨24, _⟩ => ⟨S4x2048, .f32⟩
  | .hbm, ⟨25, _⟩ => ⟨S4x512, .f32⟩
  | .hbm, ⟨26, _⟩ => ⟨S4x512x1, .f32⟩
  | .local _ .vmem, ⟨0, _⟩ => ⟨S256x4x2048, .f32⟩
  | .local _ .vmem, ⟨1, _⟩ => ⟨S4x2048, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x4, .f32⟩
  | .local _ .vmem, ⟨11, _⟩ => ⟨S4x1024, .f32⟩
  | .local _ .vmem, ⟨12, _⟩ => ⟨S1024x256, .f32⟩
  | .local _ .vmem, ⟨13, _⟩ => ⟨S4x2048, .f32⟩
  | .local _ .vmem, ⟨14, _⟩ => ⟨S4x512, .f32⟩
  | .local _ .vmem, ⟨15, _⟩ => ⟨S1024x1, .f32⟩
  | .local _ .vmem, ⟨16, _⟩ => ⟨S4x1, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v33 : BitVec 1 := Scalar.cmpi .eq arg0 c1_i32
  let v34 : BitVec 32 := Scalar.extui v33
  let c0_i32_29 : BitVec 32 := 0#32
  let v35 : BitVec 1 := Scalar.cmpi .ne v34 c0_i32_29
  v35

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4x2048 : Shape := ⟨2, ![4, 2048]⟩
abbrev S4096x4x2048 : Shape := ⟨3, ![4096, 4, 2048]⟩
abbrev S4x1 : Shape := ⟨2, ![4, 1]⟩
abbrev S2048x2048 : Shape := ⟨2, ![2048, 2048]⟩
abbrev S2048 : Shape := ⟨1, ![2048]⟩
abbrev S2048x1 : Shape := ⟨2, ![2048, 1]⟩
abbrev S1 : Shape := ⟨1, ![1]⟩
abbrev S4 : Shape := ⟨1, ![4]⟩
abbrev S_ : Shape := ⟨0, ![]⟩
abbrev S512 : Shape := ⟨1, ![512]⟩
abbrev S1x512 : Shape := ⟨2, ![1, 512]⟩
abbrev S4x512 : Shape := ⟨2, ![4, 512]⟩
abbrev S4x512x1 : Shape := ⟨3, ![4, 512, 1]⟩
abbrev S4x512x2 : Shape := ⟨3, ![4, 512, 2]⟩
abbrev S4x512x2048 : Shape := ⟨3, ![4, 512, 2048]⟩
abbrev S4x1x2048 : Shape := ⟨3, ![4, 1, 2048]⟩
abbrev S1x1x2048 : Shape := ⟨3, ![1, 1, 2048]⟩
abbrev S1x1x1 : Shape := ⟨3, ![1, 1, 1]⟩
abbrev S4x1x1 : Shape := ⟨3, ![4, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4096x4x2048, .f32⟩
  | .hbm, ⟨2, _⟩ => ⟨S4x1, .i32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x1, .f32⟩
  | .hbm, ⟨8, _⟩ => ⟨S1, .f32⟩
  | .hbm, ⟨9, _⟩ => ⟨S4, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S_, .i32⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S512, .i32⟩
  | .hbm, ⟨24, _⟩ => ⟨S4x1, .i32⟩
  | .hbm, ⟨25, _⟩ => ⟨S1x512, .i32⟩
  | .hbm, ⟨26, _⟩ => ⟨S4x512, .i32⟩
  | .hbm, ⟨27, _⟩ => ⟨S4x512, .i32⟩
  | .hbm, ⟨28, _⟩ => ⟨S4x512, .i32⟩
  | .hbm, ⟨29, _⟩ => ⟨S1x512, .i32⟩
  | .hbm, ⟨30, _⟩ => ⟨S4x1, .i32⟩
  | .hbm, ⟨31, _⟩ => ⟨S4x512, .i32⟩
  | .hbm, ⟨32, _⟩ => ⟨S4x512, .i32⟩
  | .hbm, ⟨33, _⟩ => ⟨S4x512, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S4x512, .i32⟩
  | .hbm, ⟨38, _⟩ => ⟨S4x512, .i32⟩
  | .hbm, ⟨39, _⟩ => ⟨S_, .i32⟩
  | .hbm, ⟨40, _⟩ => ⟨S4x512, .i32⟩
  | .hbm, ⟨41, _⟩ => ⟨S4x512, .i32⟩
  | .hbm, ⟨42, _⟩ => ⟨S4, .i32⟩
  | .hbm, ⟨43, _⟩ => ⟨S4x1, .i32⟩
  | .hbm, ⟨44, _⟩ => ⟨S_, .i32⟩
  | .hbm, ⟨45, _⟩ => ⟨S4x512, .i32⟩
  | .hbm, ⟨46, _⟩ => ⟨S4x512, .i1⟩
  | .hbm, ⟨47, _⟩ => ⟨S_, .i32⟩
  | .hbm, ⟨48, _⟩ => ⟨S4x512, .i32⟩
  | .hbm, ⟨49, _⟩ => ⟨S4x512, .i32⟩
  | .hbm, ⟨50, _⟩ => ⟨S4x512, .i32⟩
  | .hbm, ⟨51, _⟩ => ⟨S_, .i32⟩
  | .hbm, ⟨52, _⟩ => ⟨S4x1, .i32⟩
  | .hbm, ⟨53, _⟩ => ⟨S4x1, .i1⟩
  | .hbm, ⟨54, _⟩ => ⟨S_, .i32⟩
  | .hbm, ⟨55, _⟩ => ⟨S4x1, .i32⟩
  | .hbm, ⟨56, _⟩ => ⟨S4x1, .i32⟩
  | .hbm, ⟨57, _⟩ => ⟨S4x1, .i32⟩
  | .hbm, ⟨58, _⟩ => ⟨S4x512, .i32⟩
  | .hbm, ⟨59, _⟩ => ⟨S4x512x1, .i32⟩
  | .hbm, ⟨60, _⟩ => ⟨S4x512x1, .i32⟩
  | .hbm, ⟨61, _⟩ => ⟨S4x512x2, .i32⟩
  | .hbm, ⟨62, _⟩ => ⟨S4x512x2048, .f32⟩
  | .hbm, ⟨63, _⟩ => ⟨S4x512x1, .i1⟩
  | .hbm, ⟨64, _⟩ => ⟨S_, .f32⟩
  | .hbm, ⟨65, _⟩ => ⟨S_, .f32⟩
  | .hbm, ⟨66, _⟩ => ⟨S4x512x2048, .i1⟩
  | .hbm, ⟨67, _⟩ => ⟨S4x512x2048, .f32⟩
  | .hbm, ⟨68, _⟩ => ⟨S4x512x2048, .f32⟩
  | .hbm, ⟨69, _⟩ => ⟨S4x1x2048, .f32⟩
  | .hbm, ⟨70, _⟩ => ⟨S4x512x2048, .f32⟩
  | .hbm, ⟨71, _⟩ => ⟨S1x1x2048, .f32⟩
  | .hbm, ⟨72, _⟩ => ⟨S4x512x2048, .f32⟩
  | .hbm, ⟨73, _⟩ => ⟨S4x512x2048, .f32⟩
  | .hbm, ⟨74, _⟩ => ⟨S4x1x2048, .f32⟩
  | .hbm, ⟨75, _⟩ => ⟨S4x512x2048, .f32⟩
  | .hbm, ⟨76, _⟩ => ⟨S4x512x2048, .f32⟩
  | .hbm, ⟨77, _⟩ => ⟨S1x1x2048, .f32⟩
  | .hbm, ⟨78, _⟩ => ⟨S4x512x2048, .f32⟩
  | .hbm, ⟨79, _⟩ => ⟨S4x512x2048, .f32⟩
  | .hbm, ⟨80, _⟩ => ⟨S4x512x2048, .f32⟩
  | .hbm, ⟨81, _⟩ => ⟨S4x512x1, .f32⟩
  | .hbm, ⟨82, _⟩ => ⟨S1x1x1, .f32⟩
  | .hbm, ⟨83, _⟩ => ⟨S4x512x1, .f32⟩
  | .hbm, ⟨84, _⟩ => ⟨S4x512x1, .f32⟩
  | .hbm, ⟨85, _⟩ => ⟨S_, .f32⟩
  | .hbm, ⟨86, _⟩ => ⟨S4x1, .f32⟩
  | .hbm, ⟨87, _⟩ => ⟨S_, .f32⟩
  | .hbm, ⟨88, _⟩ => ⟨S4x1, .f32⟩
  | .hbm, ⟨89, _⟩ => ⟨S4x1, .f32⟩
  | .hbm, ⟨90, _⟩ => ⟨S4x1x1, .f32⟩
  | .hbm, ⟨91, _⟩ => ⟨S4x512x1, .f32⟩
  | .hbm, ⟨92, _⟩ => ⟨S4x512x1, .f32⟩
  | .hbm, ⟨93, _⟩ => ⟨S4x512x1, .f32⟩
  | .hbm, ⟨94, _⟩ => ⟨S_, .f32⟩
  | .hbm, ⟨95, _⟩ => ⟨S4x1, .f32⟩
  | .hbm, ⟨96, _⟩ => ⟨S4x1x1, .f32⟩
  | .hbm, ⟨97, _⟩ => ⟨S4x512x1, .f32⟩
  | .hbm, ⟨98, _⟩ => ⟨S4x512x1, .f32⟩
  | .hbm, ⟨99, _⟩ => ⟨S4x512x2048, .f32⟩
  | .hbm, ⟨100, _⟩ => ⟨S4x512x2048, .f32⟩
  | .hbm, ⟨101, _⟩ => ⟨S_, .f32⟩
  | .hbm, ⟨102, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_c_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_cst_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_11 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_12 : Ref sig .tc := ⟨.hbm, 101, rfl⟩
abbrev main_v70 : Ref sig .tc := ⟨.hbm, 102, rfl⟩

abbrev nD : Nat := 1
abbrev τ : Topo := Topo.v7x

variable {F : FTy → Type} [FloatOps F]
-- ==== Proof.KernelBlock.lean ====
module

public import proofs.«01_k».proof.Proof.Gen.KernelIdeal.Frame
public import Idealize.ShloMosaic.Lib.Pipeline.Value
public import Idealize.ShloMosaic.Lib.ValueIdx
public import Idealize.ShloMosaic.Lib.Tactic

/-! What one run of the kernel's body leaves behind, as values of what it found: the two running scores at either grid
    point, and the two output blocks at the last one. -/

@[expose] public section

noncomputable section

namespace Cert.KernelIdeal.Block

open Idealize.ShloMosaic Idealize.ShloMosaic.TcCoe Idealize.SL.Sem Idealize.ShloMosaic.ValueIdx
open Cert.KernelIdeal Cert.KernelIdeal.Gen

variable {F : FTy → Type} [FloatOps F]

/-- The origin of a rank-two block. -/
theorem origin2 : (![0, 0] : Fin 2 → Nat) = fun _ => 0 := funext fun a => by fin_cases a <;> rfl

/-- The origin of a rank-three block. -/
theorem origin3 : (![0, 0, 0] : Fin 3 → Nat) = fun _ => 0 := funext fun a => by fin_cases a <;> rfl

/-- Two blocks of 256 columns side by side. -/
def joined (L R : Vec F S4x256 .f32) : Vec F S4x512 .f32 := fun y =>
  if h : (y 1).val < 256 then L (ix2 (y 0) ⟨(y 1).val, h⟩)
  else R (ix2 (y 0) ⟨(y 1).val - 256, by have : (y 1).val < 512 := (y 1).isLt; omega⟩)

theorem joined_of_lt (L R : Vec F S4x256 .f32) (b : Fin 4) (p : Fin 512) (h : p.val < 256) :
    joined L R (ix2 b p) = L (ix2 b ⟨p.val, h⟩) := dif_pos h

theorem joined_of_not_lt (L R : Vec F S4x256 .f32) (b : Fin 4) (p : Fin 512) (h : ¬p.val < 256) :
    joined L R (ix2 b p) = R (ix2 b ⟨p.val - 256, by omega⟩) := dif_neg h

/-- The first block is where the first 256 columns are. -/
theorem joined_left (L R : Vec F S4x256 .f32) (x : S4x256.Idx) :
    L x = joined L R ((Rect.unit (s := S4x512) ![0, 0] ![4, 256] inb_S4x512_S4x256_0_0).emb x) := by
  obtain ⟨b, p, rfl⟩ : ∃ (b : Fin 4) (p : Fin 256), x = ix2 b p := ⟨_, _, eq_ix2 x⟩
  have he : (Rect.unit (s := S4x512) ![0, 0] ![4, 256] inb_S4x512_S4x256_0_0).emb (ix2 b p) = ix2 b ⟨p.val, by omega⟩ := by
    funext a
    apply Fin.ext
    match a with
    | ⟨0, _⟩ => show 0 + 1 * b.val = b.val; omega
    | ⟨1, _⟩ => show 0 + 1 * p.val = p.val; omega
  rw [he, joined_of_lt _ _ _ _ p.isLt]

/-- The second block is where the last 256 columns are. -/
theorem joined_right (L R : Vec F S4x256 .f32) (x : S4x256.Idx) :
    R x = joined L R ((Rect.unit (s := S4x512) ![0, 256] ![4, 256] inb_S4x512_S4x256_0_256).emb x) := by
  obtain ⟨b, p, rfl⟩ : ∃ (b : Fin 4) (p : Fin 256), x = ix2 b p := ⟨_, _, eq_ix2 x⟩
  have he : (Rect.unit (s := S4x512) ![0, 256] ![4, 256] inb_S4x512_S4x256_0_256).emb (ix2 b p) = ix2 b ⟨256 + p.val, by omega⟩ := by
    funext a
    apply Fin.ext
    match a with
    | ⟨0, _⟩ => show 0 + 1 * b.val = b.val; omega
    | ⟨1, _⟩ => show 256 + 1 * p.val = 256 + p.val; omega
  rw [he, joined_of_not_lt _ _ _ _ (by show ¬(256 + p.val < 256); omega)]
  refine congrArg R ?_
  exact congrArg (ix2 b) (Fin.ext (by show p.val = 256 + p.val - 256; omega))

variable (c : Dev nD) (i : grid0.Coords)
  (a1 : Memref sig .tc .vmem S256x4x2048 .f32) (h1 : a1.IsWhole)
  (a2 : Memref sig .tc .vmem S4x2048 .f32) (h2 : a2.IsWhole)
  (a3 : Memref sig .tc .vmem S2048x1024 .f32) (h3 : a3.IsWhole)
  (a4 : Memref sig .tc .vmem S2048x1024 .f32) (h4 : a4.IsWhole)
  (a5 : Memref sig .tc .vmem S1x1024 .f32) (h5 : a5.IsWhole)
  (a6 : Memref sig .tc .vmem S1024x1 .f32) (h6 : a6.IsWhole)
  (a7 : Memref sig .tc .vmem S1024x4 .f32) (h7 : a7.IsWhole)
  (a8 : Memref sig .tc .vmem S4x1024 .f32) (h8 : a8.IsWhole)
  (a9 : Memref sig .tc .vmem S1024x256 .f32) (h9 : a9.IsWhole)
  (a10 : Memref sig .tc .vmem S4x2048 .f32) (h10 : a10.IsWhole)
  (a11 : Memref sig .tc .vmem S4x512 .f32) (h11 : a11.IsWhole)
  (a12 : Memref sig .tc .vmem S1024x1 .f32) (h12 : a12.IsWhole)
  (a13 : Memref sig .tc .vmem S4x1 .f32) (h13 : a13.IsWhole)
  (x0 : Vec F S256x4x2048 .f32) (x1 : Vec F S4x2048 .f32) (x2 : Vec F S2048x1024 .f32)
  (x3 : Vec F S2048x1024 .f32) (x4 : Vec F S1x1024 .f32) (x5 : Vec F S1024x1 .f32)
  (x6 : Vec F S1024x4 .f32) (x7 : Vec F S4x1024 .f32) (x8 : Vec F S1024x256 .f32)

/-- The first point leaves the first block's score of every pair, over zero. -/
theorem first_score (k0 : cond0_0 i) (k1 : ¬cond0_1 i) :
    sout0_A_0 c i a1 h1 a2 h2 a3 h3 a4 h4 a5 h5 a6 h6 a7 h7 a8 h8 a9 h9 a10 h10 a11 h11 a12 h12 a13 h13
        k0 k1 x0 x1 x2 x3 x4 x5 x6 x7 x8
      = k0_pay16 x0 x1 x3 x4 x6 x2 k0_pay12 x5 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 k0 k1 x0 x1 x2 x3 x4 x5 x6 x7 x8)]
  unfold kernelRun0_A
  dsimp only
  sl_unfold_words
  rw [View.canon_cons_unit_zero (S := S1024x1) origin2, View.readCov_unit_zero (S := S1024x1) _ origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]

/-- The first point leaves the first block's score of a padded position, over zero. -/
theorem first_pad (k0 : cond0_0 i) (k1 : ¬cond0_1 i) :
    sout0_A_1 c i a1 h1 a2 h2 a3 h3 a4 h4 a5 h5 a6 h6 a7 h7 a8 h8 a9 h9 a10 h10 a11 h11 a12 h12 a13 h13
        k0 k1 x0 x1 x2 x3 x4 x5 x6 x7 x8
      = k0_pay1 k0_pay13 (k0_pay17 x1 x3 x4) x5 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 k0 k1 x0 x1 x2 x3 x4 x5 x6 x7 x8)]
  unfold kernelRun0_A
  dsimp only
  sl_unfold_words
  rw [View.canon_cons_unit_zero (S := S4x1) origin2, View.readCov_unit_zero (S := S4x1) _ origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]

/-- The last point adds its block's score of every pair to what it found. -/
theorem last_score (k0 : ¬cond0_0 i) (k1 : cond0_1 i) (s : Vec F S1024x1 .f32) (t : Vec F S4x1 .f32) :
    sout0_B_0 c i a1 h1 a2 h2 a3 h3 a4 h4 a5 h5 a6 h6 a7 h7 a8 h8 a9 h9 a10 h10 a11 h11 a12 h12 a13 h13
        k0 k1 x0 x1 x2 x3 x4 x5 x6 x7 x8 s t
      = k0_pay16 x0 x1 x3 x4 x6 x2 s x5 := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 k0 k1 x0 x1 x2 x3 x4 x5 x6 x7 x8 s t)]
  unfold kernelRun0_B
  dsimp only
  sl_unfold_words
  rw [View.canon_unit_zero (S := S1024x1) origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]

/-- The last point adds its block's score of a padded position to what it found. -/
theorem last_pad (k0 : ¬cond0_0 i) (k1 : cond0_1 i) (s : Vec F S1024x1 .f32) (t : Vec F S4x1 .f32) :
    sout0_B_1 c i a1 h1 a2 h2 a3 h3 a4 h4 a5 h5 a6 h6 a7 h7 a8 h8 a9 h9 a10 h10 a11 h11 a12 h12 a13 h13
        k0 k1 x0 x1 x2 x3 x4 x5 x6 x7 x8 s t
      = k0_pay1 t (k0_pay17 x1 x3 x4) x5 := by
  unfold sout0_B_1
  rw [View.read_writes_eq_canon _ _ _ (scover0_B_1 c i a1 h1 a2 h2 a3 h3 a4 h4 a5 h5 a6 h6 a7 h7 a8 h8 a9 h9 a10 h10 a11 h11 a12 h12 a13 h13 k0 k1 x0 x1 x2 x3 x4 x5 x6 x7 x8 s t)]
  unfold kernelRun0_B
  dsimp only
  sl_unfold_words
  rw [View.canon_unit_zero (S := S4x1) origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]

/-- The last point's first output block: the context vectors, of the completed scores. -/
theorem last_context (k0 : ¬cond0_0 i) (k1 : cond0_1 i) (s : Vec F S1024x1 .f32) (t : Vec F S4x1 .f32) :
    out0_B_9 c i a1 h1 a2 h2 a3 h3 a4 h4 a5 h5 a6 h6 a7 h7 a8 h8 a9 h9 a10 h10 a11 h11 a12 h12 a13 h13
        k0 k1 x0 x1 x2 x3 x4 x5 x6 x7 x8 s t
      = k0_pay9 (k0_pay14 x0) (k0_pay16 x0 x1 x3 x4 x6 x2 s x5) (k0_pay1 t (k0_pay17 x1 x3 x4) x5) x7 x6 x7 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 k0 k1 x0 x1 x2 x3 x4 x5 x6 x7 x8 s t)]
  unfold kernelRun0_B
  dsimp only
  sl_unfold_words
  rw [View.canon_unit_zero (S := S4x2048) origin2]
  simp only [View.readCov_unit_zero (S := S1024x1) _ origin2, View.readCov_unit_zero (S := S4x1) _ origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]

/-- The last point's second output block: the weights of the window rows, then those of the padding. -/
theorem last_weights (k0 : ¬cond0_0 i) (k1 : cond0_1 i) (s : Vec F S1024x1 .f32) (t : Vec F S4x1 .f32) :
    out0_B_10 c i a1 h1 a2 h2 a3 h3 a4 h4 a5 h5 a6 h6 a7 h7 a8 h8 a9 h9 a10 h10 a11 h11 a12 h12 a13 h13
        k0 k1 x0 x1 x2 x3 x4 x5 x6 x7 x8 s t
      = joined
          (k0_pay2 x7 (k0_pay10 x8) (k0_pay11 (k0_pay16 x0 x1 x3 x4 x6 x2 s x5) (k0_pay1 t (k0_pay17 x1 x3 x4) x5) x7 x6))
          (k0_pay3 (k0_pay6 (k0_pay16 x0 x1 x3 x4 x6 x2 s x5) (k0_pay1 t (k0_pay17 x1 x3 x4) x5))
            (k0_pay7 (k0_pay16 x0 x1 x3 x4 x6 x2 s x5) (k0_pay1 t (k0_pay17 x1 x3 x4) x5) x7)) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 k0 k1 x0 x1 x2 x3 x4 x5 x6 x7 x8 s t)]
  funext y
  refine View.canon_apply_of_pieces (joined _ _) _ ?_ y
    (cover0_B_10 c i a1 h1 a2 h2 a3 h3 a4 h4 a5 h5 a6 h6 a7 h7 a8 h8 a9 h9 a10 h10 a11 h11 a12 h12 a13 h13 k0 k1 x0 x1 x2 x3 x4 x5 x6 x7 x8 s t y)
  unfold kernelRun0_B
  dsimp only
  sl_unfold_words
  simp only [View.readCov_unit_zero (S := S1024x1) _ origin2, View.readCov_unit_zero (S := S4x1) _ origin2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S256x4x2048) origin3, View.ld_unit_zero (S := S4x2048) origin2, View.ld_unit_zero (S := S2048x1024) origin2,
    View.ld_unit_zero (S := S1x1024) origin2, View.ld_unit_zero (S := S1024x1) origin2, View.ld_unit_zero (S := S1024x4) origin2,
    View.ld_unit_zero (S := S4x1024) origin2, View.ld_unit_zero (S := S1024x256) origin2, View.ld_unit_zero (S := S4x1) origin2, shapeCast_self]
  intro q hq
  rcases List.mem_cons.mp hq with rfl | hq
  · exact joined_right _ _
  · obtain rfl := List.mem_singleton.mp hq
    exact joined_left _ _

end Cert.KernelIdeal.Block

end
-- ==== Proof.Table.lean ====
/-
  The two constant tables of the kernel's program in closed form: the selector (row `r` of the window belongs to batch
  `r % 4`) and its transpose. The printed text lists their elements one by one as a tree over the digits of the
  row-major index; here the tree's shape is written once over a function of the index, and one evaluation per table says
  that the printed entries are that function's values.
-/
module

public import proofs.«01_k».proof.KernelIdeal
public import Idealize.ShloMosaic.Lib.Tactic
public import Mathlib.Tactic.IntervalCases

@[expose] public section

noncomputable section

namespace Cert.KernelIdeal.Table

open Cert.KernelIdeal Idealize.ShloMosaic

/-- One of the first 32 values of `f`, by cases on the index. -/
def sel32 (x : Nat) (f : Nat → BitVec 32) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | _ => 0#32

/-- One of the first 128 values of `f`, by cases on the index. -/
def sel128 (x : Nat) (f : Nat → BitVec 32) : BitVec 32 := match x with
  | 0 => f 0 | 1 => f 1 | 2 => f 2 | 3 => f 3 | 4 => f 4 | 5 => f 5 | 6 => f 6 | 7 => f 7
  | 8 => f 8 | 9 => f 9 | 10 => f 10 | 11 => f 11 | 12 => f 12 | 13 => f 13 | 14 => f 14 | 15 => f 15
  | 16 => f 16 | 17 => f 17 | 18 => f 18 | 19 => f 19 | 20 => f 20 | 21 => f 21 | 22 => f 22 | 23 => f 23
  | 24 => f 24 | 25 => f 25 | 26 => f 26 | 27 => f 27 | 28 => f 28 | 29 => f 29 | 30 => f 30 | 31 => f 31
  | 32 => f 32 | 33 => f 33 | 34 => f 34 | 35 => f 35 | 36 => f 36 | 37 => f 37 | 38 => f 38 | 39 => f 39
  | 40 => f 40 | 41 => f 41 | 42 => f 42 | 43 => f 43 | 44 => f 44 | 45 => f 45 | 46 => f 46 | 47 => f 47
  | 48 => f 48 | 49 => f 49 | 50 => f 50 | 51 => f 51 | 52 => f 52 | 53 => f 53 | 54 => f 54 | 55 => f 55
  | 56 => f 56 | 57 => f 57 | 58 => f 58 | 59 => f 59 | 60 => f 60 | 61 => f 61 | 62 => f 62 | 63 => f 63
  | 64 => f 64 | 65 => f 65 | 66 => f 66 | 67 => f 67 | 68 => f 68 | 69 => f 69 | 70 => f 70 | 71 => f 71
  | 72 => f 72 | 73 => f 73 | 74 => f 74 | 75 => f 75 | 76 => f 76 | 77 => f 77 | 78 => f 78 | 79 => f 79
  | 80 => f 80 | 81 => f 81 | 82 => f 82 | 83 => f 83 | 84 => f 84 | 85 => f 85 | 86 => f 86 | 87 => f 87
  | 88 => f 88 | 89 => f 89 | 90 => f 90 | 91 => f 91 | 92 => f 92 | 93 => f 93 | 94 => f 94 | 95 => f 95
  | 96 => f 96 | 97 => f 97 | 98 => f 98 | 99 => f 99 | 100 => f 100 | 101 => f 101 | 102 => f 102 | 103 => f 103
  | 104 => f 104 | 105 => f 105 | 106 => f 106 | 107 => f 107 | 108 => f 108 | 109 => f 109 | 110 => f 110 | 111 => f 111
  | 112 => f 112 | 113 => f 113 | 114 => f 114 | 115 => f 115 | 116 => f 116 | 117 => f 117 | 118 => f 118 | 119 => f 119
  | 120 => f 120 | 121 => f 121 | 122 => f 122 | 123 => f 123 | 124 => f 124 | 125 => f 125 | 126 => f 126 | 127 => f 127
  | _ => 0#32

theorem sel32_eq (x : Nat) (h : x < 32) (f : Nat → BitVec 32) : sel32 x f = f x := by
  interval_cases x <;> rfl

theorem sel128_eq (x : Nat) (h : x < 128) (f : Nat → BitVec 32) : sel128 x f = f x := by
  interval_cases x <;> rfl

/-- The word of `1.0` where the condition holds, the word of `0.0` elsewhere. -/
def bit (p : Bool) : BitVec 32 := Bool.rec 0x00000000#32 0x3F800000#32 p

/-- Entry `i` of the selector `1024 × 4`: row `i / 4`, column `i % 4`. -/
def ent0 (i : Nat) : BitVec 32 := bit (Nat.beq (Nat.mod (Nat.div i 4) 4) (Nat.mod i 4))

/-- Entry `i` of its transpose `4 × 1024`: row `i / 1024`, column `i % 1024`. -/
def ent1 (i : Nat) : BitVec 32 := bit (Nat.beq (Nat.mod (Nat.mod i 1024) 4) (Nat.div i 1024))

/-- The printed selector is the digit tree over `ent0`. -/
theorem lit0t_tree (i : Nat) :
    lit0t i = sel32 (i / 128) fun n => sel128 (i % 128) fun k => ent0 (Nat.add (Nat.mul 128 n) k) := by
  sl_kernel_rfl

/-- The printed transpose is the digit tree over `ent1`. -/
theorem lit1t_tree (i : Nat) :
    lit1t i = sel32 (i / 128) fun n => sel128 (i % 128) fun k => ent1 (Nat.add (Nat.mul 128 n) k) := by
  sl_kernel_rfl

theorem lit0t_eq (i : Nat) (h : i < 4096) : lit0t i = ent0 i := by
  rw [lit0t_tree, sel32_eq _ (by omega), sel128_eq _ (by omega)]
  exact congrArg ent0 (Nat.div_add_mod i 128)

theorem lit1t_eq (i : Nat) (h : i < 4096) : lit1t i = ent1 i := by
  rw [lit1t_tree, sel32_eq _ (by omega), sel128_eq _ (by omega)]
  exact congrArg ent1 (Nat.div_add_mod i 128)

end Cert.KernelIdeal.Table

end
-- ==== Proof.Selectors.lean ====
/- The tables at the ideal instance: zeros and ones. Row `r` of the 1024 belongs to window row `r / 4` and batch
   `r % 4`. -/
module

public import proofs.«01_k».proof.Proof.Table
public import Idealize.ShloMosaic.Lib.ValueIdx

@[expose] public section

noncomputable section

namespace Cert.KernelIdeal.Selectors

open Cert.KernelIdeal Cert.KernelIdeal.Table Idealize.ShloMosaic Idealize.ShloMosaic.ValueIdx

/-- An entry of a table as a number. -/
theorem ofBits_bit (p : Bool) : FloatOps.ofBits (F := Ideal) .f32 (bit p) = if p then 1 else 0 := by
  cases p
  · simp [bit, Ideal.ofBits, Ideal.ieee]
  · simp [bit, Ideal.ofBits, Ideal.ieee]
    rw [← EReal.coe_mul]
    norm_num

/-- The selector: row `r` has its one in column `r % 4`. -/
theorem selector_apply (r : Fin 1024) (b : Fin 4) :
    FloatOps.ofBits (F := Ideal) .f32 (lit0 (S1024x4.rowMajor (ix2 r b))) = if r.val % 4 = b.val then 1 else 0 := by
  have hr : (S1024x4.rowMajor (ix2 r b)).val = r.val * 4 + b.val := Shape.rowMajor_val_two _
  show FloatOps.ofBits (F := Ideal) .f32 (lit0t (S1024x4.rowMajor (ix2 r b)).val) = _
  rw [hr, lit0t_eq _ (by omega)]
  unfold ent0
  rw [ofBits_bit]
  refine if_congr ?_ rfl rfl
  rw [Nat.beq_eq]
  show (r.val * 4 + b.val) / 4 % 4 = (r.val * 4 + b.val) % 4 ↔ _
  rw [show (r.val * 4 + b.val) / 4 = r.val by omega, show (r.val * 4 + b.val) % 4 = b.val by omega]

/-- The transposed selector. -/
theorem transposed_apply (b : Fin 4) (r : Fin 1024) :
    FloatOps.ofBits (F := Ideal) .f32 (lit1 (S4x1024.rowMajor (ix2 b r))) = if r.val % 4 = b.val then 1 else 0 := by
  have hr : (S4x1024.rowMajor (ix2 b r)).val = b.val * 1024 + r.val := Shape.rowMajor_val_two _
  show FloatOps.ofBits (F := Ideal) .f32 (lit1t (S4x1024.rowMajor (ix2 b r)).val) = _
  rw [hr, lit1t_eq _ (by omega)]
  unfold ent1
  rw [ofBits_bit]
  refine if_congr ?_ rfl rfl
  rw [Nat.beq_eq]
  show (b.val * 1024 + r.val) % 1024 % 4 = (b.val * 1024 + r.val) / 1024 ↔ _
  rw [show (b.val * 1024 + r.val) / 1024 = b.val by omega, show (b.val * 1024 + r.val) % 1024 = r.val by omega]

/-- The number of a window row, as a word: a row's number over 4. -/
theorem quotient_word : ∀ r : Fin 1024, IntOp.divsi .host (BitVec.ofNat 32 r.val) 4#32 = BitVec.ofNat 32 (r.val / 4) := by
  intro r
  have hc : ¬ IntOp.SDivCorner (BitVec.ofNat 32 r.val) 4#32 := by
    unfold IntOp.SDivCorner
    simp
  unfold IntOp.divsi
  rw [if_neg hc]
  revert r
  decide +kernel

/-- The placing table: row `r` has its one in column `r / 4`. -/
theorem placing_word (r : Fin 1024) (p : Fin 256) :
    FloatOps.uitofp (F := Ideal) .f32 (IntOp.cmpi .eq (IntOp.divsi .host (BitVec.ofNat 32 r.val) 4#32) (BitVec.ofNat 32 p.val))
      = if r.val / 4 = p.val then 1 else 0 := by
  have hq : (BitVec.ofNat 32 (r.val / 4) == BitVec.ofNat 32 p.val) = decide (r.val / 4 = p.val) := by
    rw [Bool.eq_iff_iff, beq_iff_eq, decide_eq_true_eq]
    refine ⟨fun h => ?_, fun h => congrArg _ h⟩
    have e := congrArg BitVec.toNat h
    rw [BitVec.toNat_ofNat, BitVec.toNat_ofNat, Nat.mod_eq_of_lt (by omega), Nat.mod_eq_of_lt (by omega)] at e
    exact e
  rw [quotient_word]
  show (((BitVec.ofBool (BitVec.ofNat 32 (r.val / 4) == BitVec.ofNat 32 p.val)).toNat : ℝ) : EReal) = _
  rw [hq]
  by_cases h : r.val / 4 = p.val
  · rw [decide_eq_true h, if_pos h]; simp
  · rw [decide_eq_false h, if_neg h]; simp

end Cert.KernelIdeal.Selectors

end
-- ==== Proof.KernelInput.lean ====
/- What the kernel's windows hold at a grid point, as entries of the arguments: the columns of the weights move with the
   point, the rest stays. -/
module

public import proofs.«01_k».proof.Proof.Gen.KernelIdeal.Frame
public import proofs.«01_k».proof.Proof.Selectors
public import Idealize.ShloMosaic.Lib.ValueIdx
public import Idealize.ShloMosaic.Lib.Pipeline.Value
public import Idealize.ShloMosaic.Lib.StableHlo.Run
public import Idealize.ShloMosaic.Lib.Tactic

@[expose] public section

noncomputable section

namespace Cert.KernelIdeal.Input

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD) (t : Fin cfg0.N)

/-! The argument arrays of device `c`, each with its shape. -/

abbrev arg0 : Vec Ideal S4x2048 .f32 := m ((c : Thread nD τ).loc main_arg0)
abbrev arg1 : Vec Ideal S4096x4x2048 .f32 := m ((c : Thread nD τ).loc main_arg1)
abbrev arg3 : Vec Ideal S2048x2048 .f32 := m ((c : Thread nD τ).loc main_arg3)
abbrev arg4 : Vec Ideal S2048 .f32 := m ((c : Thread nD τ).loc main_arg4)
abbrev arg5 : Vec Ideal S2048x2048 .f32 := m ((c : Thread nD τ).loc main_arg5)
abbrev arg6 : Vec Ideal S2048 .f32 := m ((c : Thread nD τ).loc main_arg6)
abbrev arg7 : Vec Ideal S2048x1 .f32 := m ((c : Thread nD τ).loc main_arg7)

/-- The sum of the two biases, as the region finds it. -/
abbrev bias : Vec Ideal S1x2048 .f32 := V m c main_v1

/-- The placing table, written as the host's operations. -/
abbrev placing : Vec Ideal S1024x256 .f32 :=
  uitofp (F := Ideal) .f32 (cmpi .eq
    (broadcastInDim S1024x256 ![0, 1] bcast_S1024x1_S1024x256_0_1
      (broadcastInDim S1024x1 ![0] bcast_S1024_S1024x1_0
        (Host.divsi (iotaInDim S1024 32 0) (broadcastInDim S1024 ![] bcast_S_S1024 (constantI S_ 32 4#32)))))
    (broadcastInDim S1024x256 ![0, 1] bcast_S1x256_S1024x256_0_1
      (broadcastInDim S1x256 ![1] bcast_S256_S1x256_1 (iotaInDim S256 32 0))))

/-! The input blocks at the point `t`, each with its shape. -/

abbrev blk0 : Vec Ideal S256x4x2048 .f32 := iblk m c 0 t
abbrev blk1 : Vec Ideal S4x2048 .f32 := iblk m c 1 t
abbrev blk2 : Vec Ideal S2048x1024 .f32 := iblk m c 2 t
abbrev blk3 : Vec Ideal S2048x1024 .f32 := iblk m c 3 t
abbrev blk4 : Vec Ideal S1x1024 .f32 := iblk m c 4 t
abbrev blk5 : Vec Ideal S1024x1 .f32 := iblk m c 5 t
abbrev blk6 : Vec Ideal S1024x4 .f32 := iblk m c 6 t
abbrev blk7 : Vec Ideal S4x1024 .f32 := iblk m c 7 t
abbrev blk8 : Vec Ideal S1024x256 .f32 := iblk m c 8 t

theorem point_lt : t.val < 2 := lt_of_lt_of_eq t.isLt N_0

/-- Column `u` of the block of the point `t`. -/
def col (u : Fin 1024) : Fin 2048 := ⟨t.val * 1024 + u.val, by have := point_lt t; omega⟩

/-- The selector as the region finds it. -/
theorem V_cst : V m c main_cst = fun i => FloatOps.ofBits (F := Ideal) .f32 (lit0 (S1024x4.rowMajor i)) := by
  show StableHlo.after (List.flatten [hostOps0]) (fun b => m (c, b)) (Proc.devRef .tc main_cst) = _
  simp only [hostOps0, List.flatten_cons, List.flatten_nil, List.append_nil]
  after_results
  rfl

theorem V_cst_0 : V m c main_cst_0 = fun i => FloatOps.ofBits (F := Ideal) .f32 (lit1 (S4x1024.rowMajor i)) := by
  show StableHlo.after (List.flatten [hostOps0]) (fun b => m (c, b)) (Proc.devRef .tc main_cst_0) = _
  simp only [hostOps0, List.flatten_cons, List.flatten_nil, List.append_nil]
  after_results
  rfl

/-- The placing table as the host computes it: row `r` over 4, compared with the column. -/
theorem V_placing (r : Fin 1024) (p : Fin 256) : (V m c main_v11 : Vec Ideal S1024x256 .f32) (ix2 r p)
    = FloatOps.uitofp (F := Ideal) .f32 (IntOp.cmpi .eq (IntOp.divsi .host (BitVec.ofNat 32 r.val) 4#32) (BitVec.ofNat 32 p.val)) := by
  have h : V m c main_v11 = placing := by
    show StableHlo.after (List.flatten [hostOps0]) (fun b => m (c, b)) (Proc.devRef .tc main_v11) = _
    simp only [hostOps0, List.flatten_cons, List.flatten_nil, List.append_nil]
    after_results
  rw [h]
  rfl

theorem V_v1 (u : Fin 2048) : bias m c (ix2 0 u)
    = arg4 m c (ix1 u)
      + arg6 m c (ix1 u) := by
  have h : V m c main_v1 = shapeCast S1x2048 (addf (F := Ideal) (φ := .f32) (arg4 m c) (arg6 m c)) shapeCasts_S2048_S1x2048 := by
    show StableHlo.after (List.flatten [hostOps0]) (fun b => m (c, b)) (Proc.devRef .tc main_v1) = _
    simp only [hostOps0, List.flatten_cons, List.flatten_nil, List.append_nil]
    after_results
    rfl
  unfold bias
  rw [h]
  refine (shapeCast_apply _ _ _ (ix1 u) (by rw [Shape.rowMajor_val_one, Shape.rowMajor_val_two]; show u.val = 0 * 2048 + u.val; omega)).trans ?_
  rfl

/-- The block of values: the window's first 256 rows. -/
theorem block_values (l : Fin 256) (b : Fin 4) (d : Fin 2048) : blk0 m c t (ix3 l b d)
    = arg1 m c (ix3 ⟨l.val, by omega⟩ b d) := by
  show iblk m c _ t _ = _
  unfold iblk
  rw [View.read_apply]
  show V m c main_arg1 _ = _
  rw [V_main_arg1]
  have h : ∀ (t : Fin grid0.N) (a : Fin 3), win0_0.index t a = 0 := by decide +kernel
  refine congrArg (arg1 m c) (funext fun a => Fin.ext ?_)
  match a with
  | ⟨0, _⟩ => show win0_0.index t 0 * 256 + 1 * l.val = l.val; rw [h]; omega
  | ⟨1, _⟩ => show win0_0.index t 1 * 4 + 1 * b.val = b.val; rw [h]; omega
  | ⟨2, _⟩ => show win0_0.index t 2 * 2048 + 1 * d.val = d.val; rw [h]; omega

theorem block_query (b : Fin 4) (k : Fin 2048) : blk1 m c t (ix2 b k)
    = arg0 m c (ix2 b k) := by
  show iblk m c _ t _ = _
  unfold iblk
  rw [View.read_apply]
  show V m c main_arg0 _ = _
  rw [V_main_arg0]
  have h : ∀ (t : Fin grid0.N) (a : Fin 2), win0_1.index t a = 0 := by decide +kernel
  refine congrArg (arg0 m c) (funext fun a => Fin.ext ?_)
  match a with
  | ⟨0, _⟩ => show win0_1.index t 0 * 4 + 1 * b.val = b.val; rw [h]; omega
  | ⟨1, _⟩ => show win0_1.index t 1 * 2048 + 1 * k.val = k.val; rw [h]; omega

theorem block_W1 (k : Fin 2048) (u : Fin 1024) : blk2 m c t (ix2 k u)
    = arg3 m c (ix2 k (col t u)) := by
  show iblk m c _ t _ = _
  unfold iblk
  rw [View.read_apply]
  show V m c main_arg3 _ = _
  rw [V_main_arg3]
  have h0 : ∀ t : Fin grid0.N, win0_2.index t 0 = 0 := by decide +kernel
  have h1 : ∀ t : Fin grid0.N, win0_2.index t 1 = t.val := by decide +kernel
  refine congrArg (arg3 m c) (funext fun a => Fin.ext ?_)
  match a with
  | ⟨0, _⟩ => show win0_2.index t 0 * 2048 + 1 * k.val = k.val; rw [h0]; omega
  | ⟨1, _⟩ => show win0_2.index t 1 * 1024 + 1 * u.val = t.val * 1024 + u.val; rw [h1, one_mul]

theorem block_W2 (k : Fin 2048) (u : Fin 1024) : blk3 m c t (ix2 k u)
    = arg5 m c (ix2 k (col t u)) := by
  show iblk m c _ t _ = _
  unfold iblk
  rw [View.read_apply]
  show V m c main_arg5 _ = _
  rw [V_main_arg5]
  have h0 : ∀ t : Fin grid0.N, win0_3.index t 0 = 0 := by decide +kernel
  have h1 : ∀ t : Fin grid0.N, win0_3.index t 1 = t.val := by decide +kernel
  refine congrArg (arg5 m c) (funext fun a => Fin.ext ?_)
  match a with
  | ⟨0, _⟩ => show win0_3.index t 0 * 2048 + 1 * k.val = k.val; rw [h0]; omega
  | ⟨1, _⟩ => show win0_3.index t 1 * 1024 + 1 * u.val = t.val * 1024 + u.val; rw [h1, one_mul]

theorem block_bias (u : Fin 1024) : blk4 m c t (ix2 0 u)
    = arg4 m c (ix1 (col t u))
      + arg6 m c (ix1 (col t u)) := by
  rw [← V_v1]
  show iblk m c _ t _ = _
  unfold iblk
  rw [View.read_apply]
  show V m c main_v1 _ = _
  have h0 : ∀ t : Fin grid0.N, win0_4.index t 0 = 0 := by decide +kernel
  have h1 : ∀ t : Fin grid0.N, win0_4.index t 1 = t.val := by decide +kernel
  refine congrArg (bias m c) (funext fun a => Fin.ext ?_)
  match a with
  | ⟨0, _⟩ => show win0_4.index t 0 * 1 + 1 * 0 = 0; rw [h0]
  | ⟨1, _⟩ => show win0_4.index t 1 * 1024 + 1 * u.val = t.val * 1024 + u.val; rw [h1, one_mul]

theorem block_V (u : Fin 1024) : blk5 m c t (ix2 u 0)
    = arg7 m c (ix2 (col t u) 0) := by
  show iblk m c _ t _ = _
  unfold iblk
  rw [View.read_apply]
  show V m c main_arg7 _ = _
  rw [V_main_arg7]
  have h0 : ∀ t : Fin grid0.N, win0_5.index t 0 = t.val := by decide +kernel
  have h1 : ∀ t : Fin grid0.N, win0_5.index t 1 = 0 := by decide +kernel
  refine congrArg (arg7 m c) (funext fun a => Fin.ext ?_)
  match a with
  | ⟨0, _⟩ => show win0_5.index t 0 * 1024 + 1 * u.val = t.val * 1024 + u.val; rw [h0, one_mul]
  | ⟨1, _⟩ => show win0_5.index t 1 * 1 + 1 * 0 = 0; rw [h1]

theorem block_selector (r : Fin 1024) (b : Fin 4) : blk6 m c t (ix2 r b)
    = if r.val % 4 = b.val then 1 else 0 := by
  rw [← Selectors.selector_apply]
  show iblk m c _ t _ = _
  unfold iblk
  rw [View.read_apply]
  show V m c main_cst _ = _
  rw [V_cst]
  have h : ∀ (t : Fin grid0.N) (a : Fin 2), win0_6.index t a = 0 := by decide +kernel
  refine congrArg (fun i => FloatOps.ofBits (F := Ideal) .f32 (lit0 (S1024x4.rowMajor i))) (funext fun a => Fin.ext ?_)
  match a with
  | ⟨0, _⟩ => show win0_6.index t 0 * 1024 + 1 * r.val = r.val; rw [h]; omega
  | ⟨1, _⟩ => show win0_6.index t 1 * 4 + 1 * b.val = b.val; rw [h]; omega

theorem block_transposed (b : Fin 4) (r : Fin 1024) : blk7 m c t (ix2 b r)
    = if r.val % 4 = b.val then 1 else 0 := by
  rw [← Selectors.transposed_apply]
  show iblk m c _ t _ = _
  unfold iblk
  rw [View.read_apply]
  show V m c main_cst_0 _ = _
  rw [V_cst_0]
  have h : ∀ (t : Fin grid0.N) (a : Fin 2), win0_7.index t a = 0 := by decide +kernel
  refine congrArg (fun i => FloatOps.ofBits (F := Ideal) .f32 (lit1 (S4x1024.rowMajor i))) (funext fun a => Fin.ext ?_)
  match a with
  | ⟨0, _⟩ => show win0_7.index t 0 * 4 + 1 * b.val = b.val; rw [h]; omega
  | ⟨1, _⟩ => show win0_7.index t 1 * 1024 + 1 * r.val = r.val; rw [h]; omega

theorem block_placing (r : Fin 1024) (p : Fin 256) : blk8 m c t (ix2 r p)
    = if r.val / 4 = p.val then 1 else 0 := by
  rw [← Selectors.placing_word, ← V_placing m c]
  show iblk m c _ t _ = _
  unfold iblk
  rw [View.read_apply]
  have h : ∀ (t : Fin grid0.N) (a : Fin 2), win0_8.index t a = 0 := by decide +kernel
  refine congrArg (V m c main_v11 : Vec Ideal S1024x256 .f32) (funext fun a => Fin.ext ?_)
  match a with
  | ⟨0, _⟩ => show win0_8.index t 0 * 1024 + 1 * r.val = r.val; rw [h]; omega
  | ⟨1, _⟩ => show win0_8.index t 1 * 256 + 1 * p.val = p.val; rw [h]; omega

end Cert.KernelIdeal.Input

end
-- ==== Proof.KernelRun.lean ====
/- What the kernel's run leaves in its two results, over the input blocks: the scores accumulated over the two points, then
   the context vectors and the weights of the last point. -/
module

public import proofs.«01_k».proof.Proof.KernelBlock
public import proofs.«01_k».proof.Proof.KernelInput

@[expose] public section

noncomputable section

namespace Cert.KernelIdeal.Run

open Idealize.ShloMosaic Idealize.ShloMosaic.TcCoe Idealize.SL.Sem
open Cert.KernelIdeal Cert.KernelIdeal.Gen Cert.KernelIdeal.Block Cert.KernelIdeal.Input

variable (m : (ℓ : Loc nD τ sig) → Buf (Elt Ideal) ℓ) (ρ : Dev nD → PrngReg) (c : Dev nD)

/-- The scores of the pairs after the point `t`, over those before it. -/
def step (t : Fin cfg0.N) (s : Vec Ideal S1024x1 .f32) : Vec Ideal S1024x1 .f32 :=
  k0_pay16 (blk0 m c t) (blk1 m c t) (blk3 m c t) (blk4 m c t) (blk6 m c t) (blk2 m c t) s (blk5 m c t)

/-- The padded positions' scores after the point `t`, over those before it. -/
def padStep (t : Fin cfg0.N) (s : Vec Ideal S4x1 .f32) : Vec Ideal S4x1 .f32 :=
  k0_pay1 s (k0_pay17 (blk1 m c t) (blk3 m c t) (blk4 m c t)) (blk5 m c t)

/-- The scores after both points. -/
def scores : Vec Ideal S1024x1 .f32 := step m c t0_1 (step m c t0_0 (k0_pay12 (F := Ideal)))

def padScores : Vec Ideal S4x1 .f32 := padStep m c t0_1 (padStep m c t0_0 (k0_pay13 (F := Ideal)))

/-- The context vectors the last point stores. -/
def contextBlock : Vec Ideal S4x2048 .f32 :=
  k0_pay9 (k0_pay14 (blk0 m c t0_1)) (scores m c) (padScores m c) (blk7 m c t0_1) (blk6 m c t0_1) (blk7 m c t0_1)

/-- The weights the last point stores. -/
def weightBlock : Vec Ideal S4x512 .f32 :=
  joined (k0_pay2 (blk7 m c t0_1) (k0_pay10 (blk8 m c t0_1)) (k0_pay11 (scores m c) (padScores m c) (blk7 m c t0_1) (blk6 m c t0_1)))
    (k0_pay3 (k0_pay6 (scores m c) (padScores m c)) (k0_pay7 (scores m c) (padScores m c) (blk7 m c t0_1)))

theorem first_point : (outsAt0 m c t0_0.val t0_0.isLt).2.2 = (step m c t0_0 (k0_pay12 (F := Ideal)), padStep m c t0_0 (k0_pay13 (F := Ideal))) := by
  rw [outsAt0_A m c t0_0 (by decide) (by decide)]
  dsimp only
  rw [first_score, first_pad]
  rfl

theorem last_point : (outsAt0 m c t0_1.val t0_1.isLt).1 = contextBlock m c
    ∧ (outsAt0 m c t0_1.val t0_1.isLt).2.1 = weightBlock m c := by
  have h0 : (outsAt0 m c (t0_1.val - 1) (Nat.lt_of_le_of_lt (Nat.sub_le _ _) t0_1.isLt)).2.2
    = (step m c t0_0 (k0_pay12 (F := Ideal)), padStep m c t0_0 (k0_pay13 (F := Ideal))) := first_point m c
  rw [outsAt0_B m c t0_1 (by decide) (by decide), h0]
  dsimp only
  rw [last_context, last_weights]
  exact ⟨rfl, rfl⟩

/-- The context vectors as contents of the first result array. -/
abbrev result0 : Buf (Elt Ideal) ((c : Thread nD τ).loc main_v12_0) := contextBlock m c

abbrev result1 : Buf (Elt Ideal) ((c : Thread nD τ).loc main_v12_1) := weightBlock m c

theorem flush_last (t : Fin cfg0.N) (h : t.val % 2 = 1) : t = t0_1 :=
  Fin.ext (by have := point_lt t; show t.val = 1; omega)

theorem flushed0 (t : Fin cfg0.N) (hf : (cfg0.win 9).flush t = true) :
    (dats m 0 c).flushed 9 t = ((cfg0.win 9).blk t).view.read (Elt Ideal) (result0 m c) := by
  obtain rfl := flush_last t ((flush0_9 t).mp hf)
  show (cfg0.win 9).cut (grid0.coords t0_1) ((dats m 0 c).after 9 t0_1) = _
  rw [after0_9, (last_point m c).1]
  have hz : (fun a => win0_9.index t0_1 a * main_v12_0.ty.shape.size a) = fun _ => 0 := funext fun a => by fin_cases a <;> decide
  exact (Memref.read_access_unit_zero (Elt Ideal) main_v12_0 hz (fun a => by rw [congrFun hz a]; simp) (result0 m c)).symm

theorem flushed1 (t : Fin cfg0.N) (hf : (cfg0.win 10).flush t = true) :
    (dats m 0 c).flushed 10 t = ((cfg0.win 10).blk t).view.read (Elt Ideal) (result1 m c) := by
  obtain rfl := flush_last t ((flush0_10 t).mp hf)
  show (cfg0.win 10).cut (grid0.coords t0_1) ((dats m 0 c).after 10 t0_1) = _
  rw [after0_10, (last_point m c).2]
  have hz : (fun a => win0_10.index t0_1 a * main_v12_1.ty.shape.size a) = fun _ => 0 := funext fun a => by fin_cases a <;> decide
  exact (Memref.read_access_unit_zero (Elt Ideal) main_v12_1 hz (fun a => by rw [congrFun hz a]; simp) (result1 m c)).symm

/-- The first result array ends holding the context vectors. -/
theorem final0 : (dats m 0 c).arrAt 9 cfg0.N = result0 m c :=
  (dats m 0 c).arrAt_eq_of_cover 9 (result0 m c) (flushed0 m c) fun i => ⟨t0_1, (flush0_9 t0_1).mpr rfl, by
    show i ∈ ((View.whole main_v12_0).slice (win0_9.rect t0_1)).set
    rw [View.set_slice_whole, Rect.mem_set_unit]
    have hi : ∀ a : Fin 2, win0_9.index t0_1 a * win0_9.size a = 0 := by decide +kernel
    have hx : ∀ a : Fin 2, win0_9.xsize (grid0.coords t0_1) a = S4x2048.size a := by decide +kernel
    intro a
    show win0_9.index t0_1 a * win0_9.size a ≤ (i a : Nat) ∧ (i a : Nat) < win0_9.index t0_1 a * win0_9.size a + win0_9.xsize (grid0.coords t0_1) a
    rw [hi, hx]
    exact ⟨Nat.zero_le _, (Nat.zero_add _).symm ▸ (i a).isLt⟩⟩

/-- The second result array ends holding the weights. -/
theorem final1 : (dats m 0 c).arrAt 10 cfg0.N = result1 m c :=
  (dats m 0 c).arrAt_eq_of_cover 10 (result1 m c) (flushed1 m c) fun i => ⟨t0_1, (flush0_10 t0_1).mpr rfl, by
    show i ∈ ((View.whole main_v12_1).slice (win0_10.rect t0_1)).set
    rw [View.set_slice_whole, Rect.mem_set_unit]
    have hi : ∀ a : Fin 2, win0_10.index t0_1 a * win0_10.size a = 0 := by decide +kernel
    have hx : ∀ a : Fin 2, win0_10.xsize (grid0.coords t0_1) a = S4x512.size a := by decide +kernel
    intro a
    show win0_10.index t0_1 a * win0_10.size a ≤ (i a : Nat) ∧ (i a : Nat) < win0_10.index t0_1 a * win0_10.size a + win0_10.xsize (grid0.coords t0_1) a
    rw [hi, hx]
    exact ⟨Nat.zero_le _, (Nat.zero_add _).symm ▸ (i a).isLt⟩⟩

/-- A matrix with a trailing axis of size one. -/
def widened (x : Vec Ideal S4x512 .f32) : Vec Ideal S4x512x1 .f32 :=
  broadcastInDim (s := S4x512) S4x512x1 ![0, 1] bcast_S4x512_S4x512x1_0_1 x

/-- The weights with the trailing axis of size one. -/
abbrev result3 : Buf (Elt Ideal) ((c : Thread nD τ).loc main_v13) :=
  widened (weightBlock m c)

/-- The line after the kernel gives the weights their trailing axis. -/
theorem tail : Pipeline.afterTail₀ cfgs (dats m) 0 (V0 m) [hostOps1] c main_v13 = result3 m c := by
  unfold Pipeline.afterTail₀
  simp only [hostOps1, List.flatten_cons, List.flatten_nil, List.append_nil]
  after_results
  refine congrArg widened ?_
  exact (Pipeline.withArrays_arr spec0 (by decide) c (V0 m c) (fun w => (dats m 0 c).arrAt w cfg0.N) 10).trans (final1 m c)

/-- The run: both results, and the arguments as they were. -/
theorem run : θ_run defs (onTc (τ := τ) (main (F := Ideal))) ⟨m, fun _ => 0, ρ⟩ (fun r => ∀ c : Dev nD,
      r.2.mem ((c.tc : Thread nD τ).loc main_v12_0) = result0 m c
      ∧ r.2.mem ((c.tc : Thread nD τ).loc main_v13) = result3 m c) :=
  (θ_run defs _ _).mono (fun _ h c => ⟨((h c).1 9).trans (final0 m c),
    ((h c).2 main_v13 (Pipeline.mem_restRefs_of main_v13 (by decide) (by decide))).trans (tail m c)⟩) (run_main m ρ)

end Cert.KernelIdeal.Run

end
-- ==== Proof.Softmax.lean ====
/-
  The mathematics of the attention step over the extended reals, free of the two programs: scores that are sums of
  `tanh` terms with finite weights are finite, a softmax does not change when every score moves by one finite amount,
  and the weights and the context that both programs compute, written as one formula each.
-/
module

public import Idealize.ShloMosaic.PureOps.Ideal
public import Mathlib.Algebra.BigOperators.Fin
public import Mathlib.Data.Finset.Fold

@[expose] public section

noncomputable section

namespace Cert.Attention

open Idealize.ShloMosaic

/-- The extended real `x` is a real number. -/
def IsReal (x : EReal) : Prop := ∃ r : ℝ, x = (r : EReal)

theorem IsReal.coe_toReal {x : EReal} (h : IsReal x) : ((x.toReal : ℝ) : EReal) = x := by
  obtain ⟨r, rfl⟩ := h
  rfl

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken in the extended reals, is the sum of the reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i, IsReal (f i)) : IsReal (∑ i ∈ s, f i) := by
  choose r hr using h
  refine ⟨∑ i ∈ s, r i, ?_⟩
  rw [← coe_sum]
  exact Finset.sum_congr rfl fun i _ => hr i

/-- `tanh` of any extended real is a real number. -/
theorem isReal_tanh (x : EReal) : IsReal (Ideal.tanh x) := by
  induction x with
  | bot => exact ⟨-1, by simp⟩
  | top => exact ⟨1, by simp⟩
  | coe r => exact ⟨Real.tanh r, rfl⟩

/-- The greatest of finitely many (at least one) real numbers, started from `-∞`, is a real number. -/
theorem isReal_fold_max {ι : Type*} (s : Finset ι) (hs : s.Nonempty) (f : ι → EReal) (h : ∀ i, IsReal (f i)) :
    IsReal (s.fold max ⊥ f) := by
  have hlt : s.fold max ⊥ f < ⊤ := by
    rw [Finset.fold_max_lt]
    refine ⟨bot_lt_top, fun i _ => ?_⟩
    obtain ⟨r, hr⟩ := h i
    rw [hr]
    exact EReal.coe_lt_top r
  have hgt : ⊥ < s.fold max ⊥ f := by
    rw [Finset.lt_fold_max]
    obtain ⟨i, hi⟩ := hs
    obtain ⟨r, hr⟩ := h i
    exact Or.inr ⟨i, hi, by rw [hr]; exact EReal.bot_lt_coe r⟩
  exact ⟨(s.fold max ⊥ f).toReal, (EReal.coe_toReal hlt.ne hgt.ne').symm⟩

theorem IsReal.max {x y : EReal} (hx : IsReal x) (hy : IsReal y) : IsReal (max x y) := by
  rcases max_choice x y with h | h <;> rw [h] <;> assumption

/-- The exponential of a difference of reals. -/
theorem exp_sub_coe (a b : ℝ) : Ideal.exp ((a : EReal) - (b : EReal)) = ((Real.exp (a - b) : ℝ) : EReal) := by
  rw [← EReal.coe_sub]
  rfl

/-- Division of reals in the extended reals, by a nonzero real. -/
theorem div_coe_coe (a b : ℝ) (h : b ≠ 0) : Ideal.div (a : EReal) (b : EReal) = ((a / b : ℝ) : EReal) := by
  rw [Ideal.div_coe h, ← EReal.coe_mul, mul_one_div]

/-- A softmax over any finite family does not change when every score moves by the same real `M`. -/
theorem softmax_shift {ι : Type*} [Fintype ι] (t : ι → ℝ) (M : ℝ) (p : ι) :
    Real.exp (t p - M) / ∑ i, Real.exp (t i - M) = Real.exp (t p) / ∑ i, Real.exp (t i) := by
  simp only [Real.exp_sub]
  rw [← Finset.sum_div, div_div_div_cancel_right₀ (Real.exp_pos M).ne']

/-! ## The attention step -/

section Step

variable (q : Fin 4 → Fin 2048 → EReal) (x : Fin 256 → Fin 4 → Fin 2048 → EReal)
  (W1 W2 : Fin 2048 → Fin 2048 → EReal) (b1 b2 V : Fin 2048 → EReal)

/-- The part of the hidden layer's argument that does not depend on the window's row: `query · W2 + b1 + b2`. -/
def bias (b : Fin 4) (u : Fin 2048) : EReal := (∑ k, q b k * W2 k u) + (b1 u + b2 u)

/-- The score of one row of values: `tanh (y · W1 + bias) · V`. -/
def score (y : Fin 2048 → EReal) (b : Fin 4) : EReal :=
  ∑ u, Ideal.tanh ((∑ k, y k * W1 k u) + bias q W2 b1 b2 b u) * V u

/-- The score of a row of zeros: `tanh (bias) · V`. -/
def padScore (b : Fin 4) : EReal := ∑ u, Ideal.tanh (bias q W2 b1 b2 b u) * V u

theorem score_zero (b : Fin 4) : score q W1 W2 b1 b2 V (fun _ => 0) b = padScore q W2 b1 b2 V b := by
  unfold score padScore
  refine Finset.sum_congr rfl fun u _ => ?_
  rw [show (∑ k, (0 : EReal) * W1 k u) = 0 from Finset.sum_eq_zero fun k _ => zero_mul _, zero_add]

theorem isReal_score (hV : ∀ u, IsReal (V u)) (y : Fin 2048 → EReal) (b : Fin 4) : IsReal (score q W1 W2 b1 b2 V y b) :=
  isReal_sum _ _ fun u => (isReal_tanh _).mul (hV u)

theorem isReal_padScore (hV : ∀ u, IsReal (V u)) (b : Fin 4) : IsReal (padScore q W2 b1 b2 V b) :=
  isReal_sum _ _ fun u => (isReal_tanh _).mul (hV u)

/-- The score at position `p` of the padded window of 512 rows: the row's score for the first 256, the score of a row
    of zeros for the others. -/
def scoreAt (b : Fin 4) (p : Fin 512) : EReal :=
  if h : p.val < 256 then score q W1 W2 b1 b2 V (x ⟨p.val, h⟩ b) b else padScore q W2 b1 b2 V b

theorem isReal_scoreAt (hV : ∀ u, IsReal (V u)) (b : Fin 4) (p : Fin 512) : IsReal (scoreAt q x W1 W2 b1 b2 V b p) := by
  unfold scoreAt
  split
  · exact isReal_score q W1 W2 b1 b2 V hV _ b
  · exact isReal_padScore q W2 b1 b2 V hV b

/-- The sum of the exponentials of the 512 scores of batch `b`. -/
def total (b : Fin 4) : ℝ := ∑ p, Real.exp (scoreAt q x W1 W2 b1 b2 V b p).toReal

theorem total_pos (b : Fin 4) : 0 < total q x W1 W2 b1 b2 V b :=
  Finset.sum_pos (fun _ _ => Real.exp_pos _) Finset.univ_nonempty

/-- The attention weight of batch `b` at position `p`: the softmax of the 512 scores. -/
def weight (b : Fin 4) (p : Fin 512) : EReal :=
  ((Real.exp (scoreAt q x W1 W2 b1 b2 V b p).toReal / total q x W1 W2 b1 b2 V b : ℝ) : EReal)

/-- The context of batch `b` at feature `d`: the values weighed, over the 256 rows of the window. -/
def context (b : Fin 4) (d : Fin 2048) : EReal :=
  ∑ l : Fin 256, weight q x W1 W2 b1 b2 V b (Fin.castAdd 256 l) * x l b d

end Step

/-- A sum over the 512 positions is the sum over the first 256 and over the last 256. -/
theorem sum_512 {M : Type*} [AddCommMonoid M] (f : Fin 512 → M) :
    ∑ p, f p = (∑ l : Fin 256, f (Fin.castAdd 256 l)) + ∑ l : Fin 256, f (Fin.natAdd 256 l) :=
  Fin.sum_univ_add (a := 256) (b := 256) f

/-- The softmax as the kernel forms it: with `M` subtracted, the last 256 scores all `c`, their exponential counted 256
    times, and the reciprocal of the sum multiplied in. -/
theorem kernel_softmax (t : Fin 512 → ℝ) (c M : ℝ) (hc : ∀ l : Fin 256, t (Fin.natAdd 256 l) = c) (p : Fin 512) :
    Ideal.exp ((t p : EReal) - (M : EReal))
        * Ideal.div 1 ((∑ l : Fin 256, Ideal.exp ((t (Fin.castAdd 256 l) : EReal) - (M : EReal)))
            + ((256 : ℝ) : EReal) * Ideal.exp ((c : EReal) - (M : EReal)))
      = ((Real.exp (t p) / ∑ i, Real.exp (t i) : ℝ) : EReal) := by
  have hz : (∑ l : Fin 256, Ideal.exp ((t (Fin.castAdd 256 l) : EReal) - (M : EReal)))
      + ((256 : ℝ) : EReal) * Ideal.exp ((c : EReal) - (M : EReal)) = ((∑ i, Real.exp (t i - M) : ℝ) : EReal) := by
    simp only [exp_sub_coe]
    rw [coe_sum, ← EReal.coe_mul, ← EReal.coe_add, sum_512]
    congr 2
    rw [Finset.sum_congr rfl fun l _ => by rw [hc l]]
    simp only [Finset.sum_const, Finset.card_univ, Fintype.card_fin, nsmul_eq_mul]
    norm_num
  have hpos : (∑ i, Real.exp (t i - M)) ≠ 0 :=
    (Finset.sum_pos (fun _ _ => Real.exp_pos _) Finset.univ_nonempty).ne'
  rw [hz, exp_sub_coe, show (1 : EReal) = ((1 : ℝ) : EReal) from rfl, div_coe_coe _ _ hpos, ← EReal.coe_mul,
    mul_one_div, softmax_shift]

/-- The softmax as the reference forms it: every score moved by `β`, the real `M` subtracted, each exponential divided by
    their sum. -/
theorem reference_softmax (t : Fin 512 → ℝ) (β M : ℝ) (p : Fin 512) :
    Ideal.div (Ideal.exp (((t p : EReal) + (β : EReal)) - (M : EReal)))
        (∑ i, Ideal.exp (((t i : EReal) + (β : EReal)) - (M : EReal)))
      = ((Real.exp (t p) / ∑ i, Real.exp (t i) : ℝ) : EReal) := by
  have hpos : (∑ i, Real.exp (t i + β - M)) ≠ 0 :=
    (Finset.sum_pos (fun _ _ => Real.exp_pos _) Finset.univ_nonempty).ne'
  simp only [← EReal.coe_add, exp_sub_coe]
  rw [coe_sum, div_coe_coe _ _ hpos]
  have h : ∀ i, t i + β - M = t i - (M - β) := fun i => by ring
  simp only [h]
  rw [softmax_shift]

end Cert.Attention

end
-- ==== Proof.Payload.lean ====
/- What the kernel body's operations compute at the ideal instance, entry by entry. The 1024 rows of a block are the pairs
   of a window row `l` and a batch `b`; a product with the selector picks a batch, a product with its transpose sums over
   the window rows of a batch. -/
module

public import proofs.«01_k».proof.Proof.Gen.KernelIdeal.Skeleton
public import proofs.«01_k».proof.Proof.Softmax
public import Idealize.ShloMosaic.Lib.MatmulPlain
public import Idealize.ShloMosaic.Lib.ValueIdx
public import Idealize.ShloMosaic.Lib.Pipeline.Value
public import Idealize.ShloMosaic.Lib.IdealHost
public import Idealize.ShloMosaic.PureOps.Ideal.Laws

@[expose] public section

noncomputable section

namespace Cert.KernelIdeal.Payload

open Cert.KernelIdeal Cert.KernelIdeal.Gen Cert.Attention Idealize.ShloMosaic Idealize.ShloMosaic.ValueIdx

/-- The row of window row `l` and batch `b`. -/
def pair (l : Fin 256) (b : Fin 4) : Fin 1024 := ⟨l.val * 4 + b.val, by omega⟩

theorem pair_mod (l : Fin 256) (b : Fin 4) : (pair l b).val % 4 = b.val := by show (l.val * 4 + b.val) % 4 = _; omega

theorem pair_div (l : Fin 256) (b : Fin 4) : (pair l b).val / 4 = l.val := by show (l.val * 4 + b.val) / 4 = _; omega

/-- Every row is a pair. -/
theorem exists_pair (r : Fin 1024) : ∃ l b, r = pair l b :=
  ⟨⟨r.val / 4, by omega⟩, ⟨r.val % 4, by omega⟩, Fin.ext (by show r.val = r.val / 4 * 4 + r.val % 4; omega)⟩

/-- A sum over the rows is a double sum. -/
theorem sum_pair (f : Fin 1024 → EReal) : ∑ r, f r = ∑ l, ∑ b, f (pair l b) := by
  rw [← Fintype.sum_prod_type']
  refine (Fintype.sum_bijective (fun x : Fin 256 × Fin 4 => pair x.1 x.2) ⟨?_, ?_⟩ _ _ fun _ => rfl).symm
  · rintro ⟨l, b⟩ ⟨l', b'⟩ h
    have h' := congrArg Fin.val h
    change l.val * 4 + b.val = l'.val * 4 + b'.val at h'
    exact Prod.ext (Fin.ext (by show l.val = l'.val; omega)) (Fin.ext (by show b.val = b'.val; omega))
  · intro r
    obtain ⟨l, b, rfl⟩ := exists_pair r
    exact ⟨(l, b), rfl⟩

/-- Summing against a row of the selector picks the row's batch. -/
theorem sum_batch (f : Fin 4 → EReal) (b : Fin 4) : ∑ b' : Fin 4, (if b.val = b'.val then (1 : EReal) else 0) * f b' = f b := by
  rw [Finset.sum_eq_single b (fun b' _ h => by rw [if_neg (fun e => h (Fin.ext e.symm)), zero_mul])
    (fun h => absurd (Finset.mem_univ _) h), if_pos rfl, one_mul]

/-- Summing against a row of the transposed selector sums over the window rows of the batch. -/
theorem sum_rows (f : Fin 1024 → EReal) (b : Fin 4) :
    ∑ r : Fin 1024, (if r.val % 4 = b.val then (1 : EReal) else 0) * f r = ∑ l, f (pair l b) := by
  rw [sum_pair]
  refine Finset.sum_congr rfl fun l _ => ?_
  rw [Finset.sum_eq_single b (fun b' _ h => by rw [pair_mod, if_neg (fun e => h (Fin.ext e)), zero_mul])
    (fun h => absurd (Finset.mem_univ _) h), if_pos (pair_mod l b), one_mul]

/-- A product of two matrices into zeros, at an entry. -/
theorem product_apply {M K N : Nat} (d : DotDims ⟨2, ![M, K]⟩ ⟨2, ![K, N]⟩ ⟨2, ![M, N]⟩) (hd : d = DotDims.plain M K N)
    (x : FVec Ideal ⟨2, ![M, K]⟩ .f32) (y : FVec Ideal ⟨2, ![K, N]⟩ .f32) (i : Fin M) (j : Fin N) :
    matmul d none x y (constant ⟨2, ![M, N]⟩ .f32 0x00000000#32) (ix2 i j) = ∑ k, x (ix2 i k) * y (ix2 k j) := by
  subst hd
  show FloatOps.matmul _ _ _ _ _ _ = _
  rw [Ideal.matmul_plain_apply]
  show Ideal.ofBits .f32 0x00000000#32 + _ = _
  rw [Ideal.ofBits_zero_f32, zero_add]

/-- The block of values, as a matrix. -/
theorem pay14_apply (v3 : Vec Ideal S256x4x2048 .f32) (l : Fin 256) (b : Fin 4) (d : Fin 2048) :
    k0_pay14 v3 (ix2 (pair l b) d) = v3 (ix3 l b d) := by
  unfold k0_pay14
  exact shapeCast_apply _ _ _ _ (by rw [Shape.rowMajor_val_three, Shape.rowMajor_val_two]; rfl)

/-- The bias of the block's columns. -/
theorem pay15_apply (v5 : Vec Ideal S4x2048 .f32) (v6 : Vec Ideal S2048x1024 .f32) (v8 : Vec Ideal S1x1024 .f32)
    (b : Fin 4) (u : Fin 1024) :
    k0_pay15 v5 v6 v8 (ix2 b u) = (∑ k, v5 (ix2 b k) * v6 (ix2 k u)) + v8 (ix2 0 u) := by
  unfold k0_pay15
  rw [addf_apply, product_apply dot_S4x2048_S2048x1024_S4x1024_1_0_0_1_n_n rfl, shapeCast_self]
  refine congrArg (_ + ·) (broadcastTo_apply _ _ _ _ fun a => ?_)
  match a with
  | ⟨0, _⟩ => rfl
  | ⟨1, _⟩ => rfl

/-- The hidden layer of a row of zeros. -/
theorem pay17_apply (v5 : Vec Ideal S4x2048 .f32) (v6 : Vec Ideal S2048x1024 .f32) (v8 : Vec Ideal S1x1024 .f32)
    (b : Fin 4) (u : Fin 1024) : k0_pay17 v5 v6 v8 (ix2 b u) = Ideal.tanh (k0_pay15 v5 v6 v8 (ix2 b u)) := rfl

/-- The scores accumulated over a block of columns. -/
theorem pay16_apply (v3 : Vec Ideal S256x4x2048 .f32) (v5 : Vec Ideal S4x2048 .f32) (v6 : Vec Ideal S2048x1024 .f32)
    (v8 : Vec Ideal S1x1024 .f32) (v12 : Vec Ideal S1024x4 .f32) (v14 : Vec Ideal S2048x1024 .f32) (v18 v19 : Vec Ideal S1024x1 .f32)
    (h12 : ∀ r b, v12 (ix2 r b) = if r.val % 4 = b.val then 1 else 0) (l : Fin 256) (b : Fin 4) :
    k0_pay16 v3 v5 v6 v8 v12 v14 v18 v19 (ix2 (pair l b) 0) = v18 (ix2 (pair l b) 0)
      + ∑ u : Fin 1024, Ideal.tanh ((∑ k, v3 (ix3 l b k) * v14 (ix2 k u)) + k0_pay15 v5 v6 v8 (ix2 b u)) * v19 (ix2 u 0) := by
  unfold k0_pay16
  rw [shapeCast_self, addf_apply, product_apply dot_S1024x1024_S1024x1_S1024x1_1_0_0_1_n_n rfl]
  refine congrArg (_ + ·) (Finset.sum_congr rfl fun u _ => congrArg (· * _) ?_)
  refine congrArg Ideal.tanh ?_
  rw [addf_apply, product_apply dot_S1024x2048_S2048x1024_S1024x1024_1_0_0_1_n_n rfl, product_apply dot_S1024x4_S4x1024_S1024x1024_1_0_0_1_n_n rfl]
  simp only [pay14_apply, h12, pair_mod, sum_batch]

/-- The score of a row of zeros accumulated over a block of columns. -/
theorem pay1_apply (v25 : Vec Ideal S4x1 .f32) (v26 : FVec Ideal S4x1024 .f32) (v27 : Vec Ideal S1024x1 .f32) (b : Fin 4) :
    k0_pay1 v25 v26 v27 (ix2 b 0) = v25 (ix2 b 0) + ∑ u, v26 (ix2 b u) * v27 (ix2 u 0) := by
  unfold k0_pay1
  rw [shapeCast_self, addf_apply, product_apply dot_S4x1024_S1024x1_S4x1_1_0_0_1_n_n rfl]

/-- The accumulators start at zero. -/
theorem pay12_apply (r : Fin 1024) : k0_pay12 (F := Ideal) (ix2 r 0) = 0 := by
  unfold k0_pay12
  rw [shapeCast_self]
  exact Ideal.ofBits_zero_f32

theorem pay13_apply (b : Fin 4) : k0_pay13 (F := Ideal) (ix2 b 0) = 0 := by
  unfold k0_pay13
  rw [shapeCast_self]
  exact Ideal.ofBits_zero_f32

section Softmax

variable (S : Vec Ideal S1024x1 .f32) (P : Vec Ideal S4x1 .f32)

/-- A maximum over real numbers, whatever the axes, is a real number or the value it started from. -/
theorem isReal_multiReduction {s t : Shape} {axes : List (Fin s.rank)} (src : FVec Ideal s .f32) (h : s.Reduces axes t)
    (hφ : FKind.Formats .f32) (hacc : (0xFF800000#32 : BitVec 32) = FKind.maximumf.neutral .f32 hφ) [Subsingleton t.Idx] (j : t.Idx) (i : s.Idx)
    (hs : ∀ i, IsReal (src i)) :
    IsReal (multiReduction .maximumf axes t src 0xFF800000#32 h hφ hacc j) := by
  rw [multiReduction_maximumf_eq_fold]
  have hbot : FloatOps.ofBits (F := Ideal) .f32 0xFF800000#32 = ⊥ := by simp [Ideal.ofBits, Ideal.ieee]
  rw [hbot]
  exact isReal_fold_max _ ⟨i, by simp [Subsingleton.elim (h.drop i) j]⟩ _ hs

instance : Subsingleton S1.Idx := ⟨fun i j => funext fun a => by
  obtain rfl : a = 0 := Subsingleton.elim (α := Fin 1) _ _
  exact Subsingleton.elim (α := Fin 1) _ _⟩

/-- The number subtracted from every score is real when the scores are. -/
theorem pay4_isReal (hS : ∀ i, IsReal (S i)) (hP : ∀ i, IsReal (P i)) : IsReal (k0_pay4 S P) := by
  unfold k0_pay4
  refine IsReal.max ?_ ?_
  · exact isReal_multiReduction _ _ (.inl rfl) rfl _ (ix3 0 0 0) fun i => hS _
  · exact isReal_multiReduction _ _ (.inl rfl) rfl _ (ix3 0 0 0) fun i => hP _

theorem pay5_apply (r : Fin 1024) : k0_pay5 S P (ix2 r 0) = Ideal.exp (S (ix2 r 0) - k0_pay4 S P) := rfl

theorem pay6_apply (b : Fin 4) : k0_pay6 S P (ix2 b 0) = Ideal.exp (P (ix2 b 0) - k0_pay4 S P) := rfl

variable (T : Vec Ideal S4x1024 .f32) (hT : ∀ b r, T (ix2 b r) = if r.val % 4 = b.val then 1 else 0)
  (E : Vec Ideal S1024x4 .f32) (hE : ∀ r b, E (ix2 r b) = if r.val % 4 = b.val then 1 else 0)

include hT

/-- The reciprocal of a batch's sum of exponentials, the padding counted 256 times. -/
theorem pay7_apply (b : Fin 4) : k0_pay7 S P T (ix2 b 0)
    = Ideal.div 1 ((∑ l, k0_pay5 S P (ix2 (pair l b) 0)) + ((256 : ℝ) : EReal) * k0_pay6 S P (ix2 b 0)) := by
  unfold k0_pay7
  have h1 : FloatOps.ofBits (F := Ideal) .f32 0x3F800000#32 = 1 := Ideal.ofBits_one_f32
  have h256 : FloatOps.ofBits (F := Ideal) .f32 0x43800000#32 = ((256 : ℝ) : EReal) := by
    simp [Ideal.ofBits, Ideal.ieee]
    rw [← EReal.coe_mul]
    norm_num
  rw [divf_apply, addf_apply, product_apply dot_S4x1024_S1024x1_S4x1_1_0_0_1_n_n rfl, mulf_apply, broadcast_apply, broadcast_apply]
  show Ideal.div (FloatOps.ofBits (F := Ideal) .f32 0x3F800000#32)
    (_ + FloatOps.ofBits (F := Ideal) .f32 0x43800000#32 * _) = _
  rw [h1, h256]
  simp only [hT]
  rw [sum_rows]

include hE

/-- The weight of a row. -/
theorem pay8_apply (l : Fin 256) (b : Fin 4) : k0_pay8 S P T E (ix2 (pair l b) 0)
    = k0_pay5 S P (ix2 (pair l b) 0) * k0_pay7 S P T (ix2 b 0) := by
  unfold k0_pay8
  rw [mulf_apply, product_apply dot_S1024x4_S4x1_S1024x1_1_0_0_1_n_n rfl]
  simp only [hE, pair_mod, sum_batch]

/-- The context of a batch: the weighed sum of its window rows. -/
theorem pay9_apply (X : FVec Ideal S1024x2048 .f32) (b : Fin 4) (d : Fin 2048) :
    k0_pay9 X S P T E T (ix2 b d) = ∑ l, (k0_pay5 S P (ix2 (pair l b) 0) * k0_pay7 S P T (ix2 b 0)) * X (ix2 (pair l b) d) := by
  unfold k0_pay9
  rw [product_apply dot_S4x1024_S1024x2048_S4x2048_1_0_0_1_n_n rfl]
  simp only [hT]
  rw [sum_rows]
  refine Finset.sum_congr rfl fun l _ => ?_
  rw [mulf_apply, ← pay8_apply S P T hT E hE]
  refine congrArg (· * _) (broadcastTo_apply _ _ _ _ fun a => ?_)
  match a with
  | ⟨0, _⟩ => rfl
  | ⟨1, _⟩ => rfl

/-- The weights of a batch, placed by window row. -/
theorem pay2_apply (Q : Vec Ideal S1024x256 .f32) (hQ : ∀ r p, Q (ix2 r p) = if r.val / 4 = p.val then 1 else 0)
    (b : Fin 4) (p : Fin 256) :
    k0_pay2 T (k0_pay10 Q) (k0_pay11 S P T E) (ix2 b p) = k0_pay5 S P (ix2 (pair p b) 0) * k0_pay7 S P T (ix2 b 0) := by
  unfold k0_pay2 k0_pay10 k0_pay11
  rw [shapeCast_self, product_apply dot_S4x1024_S1024x256_S4x256_1_0_0_1_n_n rfl]
  simp only [hT]
  rw [sum_rows]
  have h : ∀ l, mulf (broadcastTo S1024x256 (k0_pay8 S P T E) broadcasts_S1024x1_S1024x256) Q (ix2 (pair l b) p)
      = k0_pay8 S P T E (ix2 (pair l b) 0) * (if l.val = p.val then 1 else 0) := fun l => by
    rw [mulf_apply, hQ, pair_div]
    refine congrArg (· * _) (broadcastTo_apply _ _ _ _ fun a => ?_)
    match a with
    | ⟨0, _⟩ => rfl
    | ⟨1, _⟩ => rfl
  simp only [h]
  rw [Finset.sum_eq_single p (fun l _ hl => by rw [if_neg (fun e => hl (Fin.ext e)), mul_zero])
    (fun h => absurd (Finset.mem_univ _) h), if_pos rfl, mul_one, pay8_apply S P T hT E hE]

end Softmax

/-- The weight of the padding, repeated. -/
theorem pay3_apply (v52 v59 : FVec Ideal S4x1 .f32) (b : Fin 4) (p : Fin 256) :
    k0_pay3 v52 v59 (ix2 b p) = v52 (ix2 b 0) * v59 (ix2 b 0) := by
  unfold k0_pay3
  rw [shapeCast_self]
  refine (broadcastTo_apply _ _ _ (ix2 b 0) fun a => ?_).trans (mulf_apply _ _ _)
  match a with
  | ⟨0, _⟩ => rfl
  | ⟨1, _⟩ => rfl

end Cert.KernelIdeal.Payload

end
-- ==== Proof.Spec.lean ====
/- The attention weights and the context as functions of the argument arrays: what both programs are shown to compute. -/
module

public import proofs.«01_k».proof.Proof.Softmax
public import Idealize.ShloMosaic.Lib.ValueIdx

@[expose] public section

noncomputable section

namespace Cert.Attention

open Idealize.ShloMosaic Idealize.ShloMosaic.ValueIdx

/-- A vector of numbers by position. -/
def at1 {a : Nat} (v : (⟨1, ![a]⟩ : Shape).Idx → EReal) (i : Fin a) : EReal := v (ix1 i)

/-- A matrix of numbers by row and column. -/
def at2 {a b : Nat} (v : (⟨2, ![a, b]⟩ : Shape).Idx → EReal) (i : Fin a) (j : Fin b) : EReal := v (ix2 i j)

/-- A matrix of one column by row. -/
def column {a : Nat} (v : (⟨2, ![a, 1]⟩ : Shape).Idx → EReal) (i : Fin a) : EReal := v (ix2 i 0)

/-- The first 256 rows of the values: the part of the window that lies inside the sequence when its centre is position 0. -/
def window (v : (⟨3, ![4096, 4, 2048]⟩ : Shape).Idx → EReal) (l : Fin 256) (b : Fin 4) (d : Fin 2048) : EReal :=
  v (ix3 ⟨l.val, by omega⟩ b d)

variable (query : (⟨2, ![4, 2048]⟩ : Shape).Idx → EReal) (values : (⟨3, ![4096, 4, 2048]⟩ : Shape).Idx → EReal)
  (W1 : (⟨2, ![2048, 2048]⟩ : Shape).Idx → EReal) (b1 : (⟨1, ![2048]⟩ : Shape).Idx → EReal)
  (W2 : (⟨2, ![2048, 2048]⟩ : Shape).Idx → EReal) (b2 : (⟨1, ![2048]⟩ : Shape).Idx → EReal)
  (V : (⟨2, ![2048, 1]⟩ : Shape).Idx → EReal)

/-- The attention weights of shape `[4, 512, 1]`. -/
def weights : (⟨3, ![4, 512, 1]⟩ : Shape).Idx → EReal := fun i =>
  weight (at2 query) (window values) (at2 W1) (at2 W2) (at1 b1) (at1 b2) (column V) (i 0) (i 1)

/-- The contexts of shape `[4, 2048]`. -/
def contexts : (⟨2, ![4, 2048]⟩ : Shape).Idx → EReal := fun i =>
  context (at2 query) (window values) (at2 W1) (at2 W2) (at1 b1) (at1 b2) (column V) (i 0) (i 1)

end Cert.Attention

end
-- ==== Proof.Equation.lean ====
/- The kernel's two results are the contexts and the attention weights of its arguments, when the entries of `V` are real
   numbers. -/
module

public import proofs.«01_k».proof.Proof.KernelRun
public import proofs.«01_k».proof.Proof.Payload
public import proofs.«01_k».proof.Proof.Spec

@[expose] public section

noncomputable section

namespace Cert.KernelIdeal.Equation

open Idealize.ShloMosaic Idealize.ShloMosaic.TcCoe Idealize.ShloMosaic.ValueIdx
open Cert.KernelIdeal Cert.KernelIdeal.Gen Cert.KernelIdeal.Block Cert.KernelIdeal.Input Cert.KernelIdeal.Payload
open Cert.KernelIdeal.Run Cert.Attention

variable (m : (ℓ : Loc nD τ sig) → Buf (Elt Ideal) ℓ) (c : Dev nD)

/-- The bias of every batch and column, of the kernel's arguments. -/
abbrev biasOf (b : Fin 4) (u : Fin 2048) : EReal :=
  Attention.bias (at2 (arg0 m c)) (at2 (arg5 m c)) (at1 (arg4 m c)) (at1 (arg6 m c)) b u

/-- The padded window's scores, of the kernel's arguments. -/
abbrev scoreOf (b : Fin 4) (p : Fin 512) : EReal :=
  scoreAt (at2 (arg0 m c)) (window (arg1 m c)) (at2 (arg3 m c)) (at2 (arg5 m c)) (at1 (arg4 m c)) (at1 (arg6 m c)) (column (arg7 m c)) b p

/-- The attention weights, of the kernel's arguments. -/
abbrev weightOf (b : Fin 4) (p : Fin 512) : EReal :=
  weight (at2 (arg0 m c)) (window (arg1 m c)) (at2 (arg3 m c)) (at2 (arg5 m c)) (at1 (arg4 m c)) (at1 (arg6 m c)) (column (arg7 m c)) b p

/-- The two blocks of 1024 columns are all the columns. -/
theorem sum_columns (g : Fin 2048 → EReal) :
    (∑ u, g (col t0_0 u)) + (∑ u, g (col t0_1 u)) = ∑ u, g u := by
  rw [show (∑ u : Fin 2048, g u) = _ from Fin.sum_univ_add (a := 1024) (b := 1024) g]
  refine congrArg₂ (· + ·) (Finset.sum_congr rfl fun u _ => congrArg g (Fin.ext ?_)) (Finset.sum_congr rfl fun u _ => congrArg g (Fin.ext ?_))
  · show 0 * 1024 + u.val = u.val; omega
  · show 1 * 1024 + u.val = 1024 + u.val; omega

theorem block_biasOf (t : Fin cfg0.N) (b : Fin 4) (u : Fin 1024) :
    k0_pay15 (blk1 m c t) (blk3 m c t) (blk4 m c t) (ix2 b u) = biasOf m c b (col t u) := by
  rw [pay15_apply]
  simp only [block_query, block_W2, block_bias]
  rfl

/-- One point adds its columns' part of a row's score. -/
theorem step_apply (t : Fin cfg0.N) (s : Vec Ideal S1024x1 .f32) (l : Fin 256) (b : Fin 4) :
    step m c t s (ix2 (pair l b) 0) = s (ix2 (pair l b) 0)
      + ∑ u, Ideal.tanh ((∑ k, window (arg1 m c) l b k * at2 (arg3 m c) k (col t u)) + biasOf m c b (col t u))
          * column (arg7 m c) (col t u) := by
  unfold step
  rw [pay16_apply _ _ _ _ _ _ _ _ (block_selector m c t)]
  simp only [block_biasOf, block_values, block_W1, block_V]
  rfl

theorem padStep_apply (t : Fin cfg0.N) (s : Vec Ideal S4x1 .f32) (b : Fin 4) :
    padStep m c t s (ix2 b 0) = s (ix2 b 0)
      + ∑ u, Ideal.tanh (biasOf m c b (col t u)) * column (arg7 m c) (col t u) := by
  unfold padStep
  rw [pay1_apply]
  simp only [pay17_apply, block_biasOf, block_V]
  rfl

/-- After both points a row holds its score. -/
theorem scores_apply (l : Fin 256) (b : Fin 4) : scores m c (ix2 (pair l b) 0) = scoreOf m c b (Fin.castAdd 256 l) := by
  unfold scores
  rw [step_apply, step_apply, pay12_apply, zero_add,
    sum_columns fun u => Ideal.tanh ((∑ k, window (arg1 m c) l b k * at2 (arg3 m c) k u) + biasOf m c b u) * column (arg7 m c) u]
  unfold scoreOf scoreAt
  rw [dif_pos (show (Fin.castAdd 256 l : Fin 512).val < 256 from l.isLt)]
  rfl

/-- After both points the padding's accumulator holds the score of every padded position. -/
theorem padScores_apply (l : Fin 256) (b : Fin 4) : padScores m c (ix2 b 0) = scoreOf m c b (Fin.natAdd 256 l) := by
  unfold padScores
  rw [padStep_apply, padStep_apply, pay13_apply, zero_add,
    sum_columns fun u => Ideal.tanh (biasOf m c b u) * column (arg7 m c) u]
  unfold scoreOf scoreAt
  rw [dif_neg (by show ¬(256 + l.val < 256); omega)]
  rfl

variable (hV : ∀ i, IsReal (arg7 m c i))

include hV

theorem isReal_scoreOf (b : Fin 4) (p : Fin 512) : IsReal (scoreOf m c b p) := isReal_scoreAt _ _ _ _ _ _ _ (fun _ => hV _) b p

/-- The number the kernel subtracts is real. -/
theorem isReal_shift : IsReal (k0_pay4 (scores m c) (padScores m c)) := by
  refine pay4_isReal _ _ (fun i => ?_) fun i => ?_
  · obtain ⟨r, z, rfl⟩ : ∃ (r : Fin 1024) (z : Fin 1), i = ix2 r z := ⟨_, _, eq_ix2 i⟩
    obtain ⟨l, b, rfl⟩ := exists_pair r
    obtain rfl : z = 0 := Subsingleton.elim _ _
    rw [scores_apply]
    exact isReal_scoreOf m c hV _ _
  · obtain ⟨b, z, rfl⟩ : ∃ (b : Fin 4) (z : Fin 1), i = ix2 b z := ⟨_, _, eq_ix2 i⟩
    obtain rfl : z = 0 := Subsingleton.elim _ _
    rw [padScores_apply m c 0]
    exact isReal_scoreOf m c hV _ _

/-- The kernel's softmax at any position of the padded window. -/
theorem softmax_apply (b : Fin 4) (p : Fin 512) :
    Ideal.exp (scoreOf m c b p - k0_pay4 (scores m c) (padScores m c)) * k0_pay7 (scores m c) (padScores m c) (blk7 m c t0_1) (ix2 b 0)
      = weightOf m c b p := by
  have hr := fun p => (isReal_scoreOf m c hV b p).coe_toReal
  have hM := (isReal_shift m c hV).coe_toReal
  rw [pay7_apply _ _ _ (block_transposed m c t0_1)]
  simp only [pay5_apply, pay6_apply, scores_apply, padScores_apply m c 0]
  have hpad : ∀ l : Fin 256, scoreOf m c b (Fin.natAdd 256 l) = scoreOf m c b (Fin.natAdd 256 (0 : Fin 256)) := fun l => by
    rw [← padScores_apply m c l, ← padScores_apply m c 0]
  have h := kernel_softmax (fun p => (scoreOf m c b p).toReal) (scoreOf m c b (Fin.natAdd 256 (0 : Fin 256))).toReal
    (k0_pay4 (scores m c) (padScores m c)).toReal (fun l => congrArg EReal.toReal (hpad l)) p
  simp only [hr, hM] at h
  exact h

theorem row_weight (l : Fin 256) (b : Fin 4) :
    k0_pay5 (scores m c) (padScores m c) (ix2 (pair l b) 0) * k0_pay7 (scores m c) (padScores m c) (blk7 m c t0_1) (ix2 b 0)
      = weightOf m c b (Fin.castAdd 256 l) := by
  rw [pay5_apply, scores_apply]
  exact softmax_apply m c hV b _

/-- The kernel's first result: the contexts. -/
theorem context_eq : contextBlock m c
    = contexts (arg0 m c) (arg1 m c) (arg3 m c) (arg4 m c) (arg5 m c) (arg6 m c) (arg7 m c) := by
  funext i
  obtain ⟨b, d, rfl⟩ : ∃ (b : Fin 4) (d : Fin 2048), i = ix2 b d := ⟨_, _, eq_ix2 i⟩
  unfold contextBlock
  show _ = ∑ l : Fin 256, weightOf m c b (Fin.castAdd 256 l) * window (arg1 m c) l b d
  rw [pay9_apply _ _ _ (block_transposed m c t0_1) _ (block_selector m c t0_1)]
  refine Finset.sum_congr rfl fun l _ => ?_
  rw [row_weight m c hV, pay14_apply, block_values]
  rfl

/-- The kernel's second result: the attention weights. -/
theorem weight_eq : widened (weightBlock m c)
    = weights (arg0 m c) (arg1 m c) (arg3 m c) (arg4 m c) (arg5 m c) (arg6 m c) (arg7 m c) := by
  funext i
  obtain ⟨b, p, z, rfl⟩ : ∃ (b : Fin 4) (p : Fin 512) (z : Fin 1), i = ix3 b p z := ⟨_, _, _, eq_ix3 i⟩
  have hw : widened (weightBlock m c) (ix3 b p z) = weightBlock m c (ix2 b p) := by
    unfold widened broadcastInDim
    refine congrArg (weightBlock m c) (funext fun a => Fin.ext ?_)
    match a with
    | ⟨0, _⟩ => rfl
    | ⟨1, _⟩ => rfl
  rw [hw]
  unfold weightBlock
  show _ = weightOf m c b p
  by_cases h : p.val < 256
  · rw [joined_of_lt _ _ _ _ h, pay2_apply _ _ _ (block_transposed m c t0_1) _ (block_selector m c t0_1) _ (block_placing m c t0_1),
      row_weight m c hV]
    exact congrArg (weightOf m c b) (Fin.ext rfl)
  · rw [joined_of_not_lt _ _ _ _ h, pay3_apply, pay6_apply, padScores_apply m c ⟨p.val - 256, by omega⟩, softmax_apply m c hV]
    exact congrArg (weightOf m c b) (Fin.ext (by show 256 + (p.val - 256) = p.val; omega))

end Cert.KernelIdeal.Equation

end
-- ==== Proof.RefRows.lean ====
/- The rows that the reference gathers. With every position 0 the window starts at row 0 and holds 256 rows inside the
   sequence: the gathered row `p` is row `p` of the values, and the rows from 256 on are replaced by zeros. -/
module

public import proofs.«01_k».proof.Proof.Gen.ReferenceIdeal.Read
public import proofs.«01_k».proof.Proof.Spec

@[expose] public section

noncomputable section

namespace Cert.ReferenceIdeal.Rows

open Cert.ReferenceIdeal Cert.ReferenceIdeal.Gen Cert.ReferenceIdeal.Read Cert.Attention
open Idealize.ShloMosaic Idealize.ShloMosaic.TcCoe Idealize.ShloMosaic.ValueIdx

variable (x1 : (⟨S4096x4x2048, .f32⟩ : BufTy).Contents (Elt Ideal)) (x2 : (⟨S4x1, .i32⟩ : BufTy).Contents (Elt Ideal))
  (hpos : ∀ i, x2 i = 0#32)

include hpos

/-- The window starts at row 0. -/
theorem start_eq (i : S4.Idx) : val_main_v4 (F := Ideal) x2 i = 0#32 := by
  rw [val_main_v4_apply, val_main_v2_apply, val_main_v3_apply, val_main_v0_apply, val_main_v1_apply, hpos,
    val_main_c_apply, val_main_c_0_apply]
  decide +kernel

/-- The window holds 256 rows. -/
theorem length_eq (i : S4.Idx) : val_main_v9 (F := Ideal) x2 i = 256#32 := by
  rw [val_main_v9_apply, start_eq x2 hpos, val_main_v8_apply, val_main_v6_apply, val_main_v5_apply, val_main_v7_apply,
    val_main_v0_apply, hpos, val_main_c_1_apply, val_main_c_2_apply]
  decide +kernel

omit hpos in
/-- Whether a position of the padded window is below 256, as the comparison's bit. -/
theorem below_256 (p : Fin 512) : IntOp.cmpi .slt (BitVec.ofNat 32 p.val) 256#32 = if p.val < 256 then 1#1 else 0#1 := by
  revert p; decide +kernel

omit hpos in
/-- A position of the padded window is left alone by the clipping to `[0, 4095]` and by the wrapping of negative indices. -/
theorem wrapped (p : Fin 512) :
    Scalar.select (IntOp.cmpi .slt (IntOp.minsi 4095#32 (IntOp.maxsi 0#32 (IntOp.addi 0#32 (BitVec.ofNat 32 p.val)))) 0#32)
      (IntOp.addi (IntOp.minsi 4095#32 (IntOp.maxsi 0#32 (IntOp.addi 0#32 (BitVec.ofNat 32 p.val)))) 4096#32)
      (IntOp.minsi 4095#32 (IntOp.maxsi 0#32 (IntOp.addi 0#32 (BitVec.ofNat 32 p.val)))) = BitVec.ofNat 32 p.val := by
  revert p; decide +kernel

omit hpos in
/-- A batch number is left alone by the wrapping of negative indices. -/
theorem batch_wrapped (b : Fin 4) :
    Scalar.select (IntOp.cmpi .slt (BitVec.ofNat 32 b.val) 0#32) (IntOp.addi (BitVec.ofNat 32 b.val) 4#32)
      (BitVec.ofNat 32 b.val) = BitVec.ofNat 32 b.val := by
  revert b; decide +kernel

omit hpos in
/-- A position of the padded window, read signed. -/
theorem position_toNat (p : Fin 512) : (BitVec.ofNat 32 p.val).toInt.toNat = p.val := by
  revert p; decide +kernel

/-- The mask of the rows inside the sequence. -/
theorem mask_eq (b : Fin 4) (p : Fin 512) (i : S4x512.Idx) (hi : i = ix2 b p) :
    val_main_v20 (F := Ideal) x2 i = if p.val < 256 then 1#1 else 0#1 := by
  subst hi
  rw [val_main_v20_apply, val_main_v18_apply, val_main_v16_apply, val_main_v10_apply, val_main_v19_apply, val_main_v17_apply,
    length_eq x2 hpos]
  exact below_256 p

/-- The row numbers that are gathered. -/
theorem row_eq (b : Fin 4) (p : Fin 512) (i : S4x512.Idx) (hi : i = ix2 b p) :
    val_main_v28 (F := Ideal) x2 i = BitVec.ofNat 32 p.val := by
  subst hi
  rw [val_main_v28_apply, val_main_v25_apply, val_main_v27_apply, val_main_v24_apply, val_main_v26_apply, val_main_v21_apply,
    val_main_call0_v4_apply, val_main_call0_v3_apply, val_main_call0_v2_apply, val_main_call0_v1_apply, val_main_call0_v0_apply,
    val_main_v15_apply, val_main_v13_apply, val_main_v11_apply, start_eq x2 hpos, val_main_v14_apply, val_main_v12_apply,
    val_main_v10_apply]
  exact wrapped p

omit hpos in
/-- The batch numbers that are gathered. -/
theorem batch_eq (b : Fin 4) (i : S4x1.Idx) (hi : i = ix2 b 0) : val_main_v33 (F := Ideal) i = BitVec.ofNat 32 b.val := by
  subst hi
  rw [val_main_v33_apply, val_main_v30_apply, val_main_v32_apply, val_main_v29_apply, val_main_v31_apply, val_main_v23_apply,
    val_main_v22_apply]
  exact batch_wrapped b

/-- The first component of each start index: the row. -/
theorem index_row (b : Fin 4) (p : Fin 512) : val_main_v37 (F := Ideal) x2 (ix3 b p 0) = BitVec.ofNat 32 p.val := by
  unfold val_main_v37
  refine (concatenate_pair_apply_left (s₁ := S4x512x1) (s₂ := S4x512x1) (t := S4x512x2) 2 _ _ _ (ix3 b p 0) rfl (ix3 b p 0)
    (fun a => by fin_cases a <;> rfl)).trans ?_
  rw [val_main_v35_apply]
  exact row_eq x2 hpos b p _ (by funext a; fin_cases a <;> rfl)

omit hpos in
/-- The second component of each start index: the batch. -/
theorem index_batch (b : Fin 4) (p : Fin 512) : val_main_v37 (F := Ideal) x2 (ix3 b p 1) = BitVec.ofNat 32 b.val := by
  unfold val_main_v37
  refine (concatenate_pair_apply_right (s₁ := S4x512x1) (s₂ := S4x512x1) (t := S4x512x2) 2 _ _ _ (ix3 b p 1) rfl rfl (ix3 b p 0)
    (fun a h => by fin_cases a <;> first | rfl | exact absurd rfl h) rfl).trans ?_
  rw [val_main_v36_apply, val_main_v34_apply]
  exact batch_eq b _ (by funext a; fin_cases a <;> rfl)

omit hpos in
/-- Where component `c` of the start index of the result's row `(b, p)` is read. -/
theorem startIndex_eq (b : Fin 4) (p : Fin 512) (d : Fin 2048) (c) :
    gather_S4096x4x2048_S4x512x2_S4x512x2048_2_01_n_n_01_2_112048.siIdx (ix3 b p d) c = ix3 b p c := by
  funext e
  refine Fin.ext ?_
  match e with
  | ⟨0, _⟩ => rfl
  | ⟨1, _⟩ => rfl
  | ⟨2, _⟩ => rfl

/-- The gather: row `p` of the values. -/
theorem gathered (b : Fin 4) (p : Fin 512) (d : Fin 2048) :
    val_main_v38 (F := Ideal) x1 x2 (ix3 b p d) = x1 (ix3 ⟨p.val, by omega⟩ b d) := by
  unfold val_main_v38 Host.gather
  congr 1
  funext a
  refine Fin.ext ?_
  show GatherDims.start _ (ix3 b p d) (val_main_v37 (F := Ideal) x2) a + GatherDims.batchCoord _ (ix3 b p d) a
    + GatherDims.offCoord _ (ix3 b p d) a = _
  rw [GatherDims.batchCoord_eq_zero _ _ _ List.not_mem_nil]
  have h : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h with rfl | rfl | rfl
  · rw [GatherDims.offCoord_eq_zero _ _ _ (by decide)]
    unfold GatherDims.start
    rw [dif_pos (by decide)]
    rw [startIndex_eq]
    refine (congrArg (fun z : BitVec 32 => min z.toInt.toNat (4096 - 1) + 0 + 0) (index_row x2 hpos b p)).trans ?_
    show min (BitVec.ofNat 32 p.val).toInt.toNat (4096 - 1) + 0 + 0 = p.val
    rw [position_toNat]
    omega
  · rw [GatherDims.offCoord_eq_zero _ _ _ (by decide)]
    unfold GatherDims.start
    rw [dif_pos (by decide)]
    rw [startIndex_eq]
    refine (congrArg (fun z : BitVec 32 => min z.toInt.toNat (4 - 1) + 0 + 0) (index_batch x2 b p)).trans ?_
    show min (BitVec.ofNat 32 b.val).toInt.toNat (4 - 1) + 0 + 0 = b.val
    rw [position_toNat ⟨b.val, by omega⟩]
    show min b.val (4 - 1) + 0 + 0 = b.val
    omega
  · unfold GatherDims.start
    rw [dif_neg (by decide)]
    unfold GatherDims.offCoord
    rw [dif_pos (by decide)]
    exact Nat.zero_add _

/-- The padded window: the values' rows below 256, zeros from there on. -/
theorem padded (b : Fin 4) (p : Fin 512) (d : Fin 2048) :
    val_main_v40 (F := Ideal) x1 x2 (ix3 b p d) = if h : p.val < 256 then window x1 ⟨p.val, h⟩ b d else 0 := by
  rw [val_main_v40_apply, gathered x1 x2 hpos, val_main_call1_v1_apply, val_main_v39_apply,
    mask_eq x2 hpos b p _ (by funext a; fin_cases a <;> rfl), val_main_call1_v2_apply, val_main_call1_v0_apply, val_main_cst_apply]
  by_cases h : p.val < 256
  · rw [if_pos h, dif_pos h, select_one]
    rfl
  · rw [if_neg h, dif_neg h, select_zero]
    simp

end Cert.ReferenceIdeal.Rows

end
-- ==== Proof.RefValue.lean ====
/- What the reference computes when every position is 0 and the vectors `V` and `bV` hold real numbers: the weights and
   the contexts of `Cert.Attention`. -/
module

public import proofs.«01_k».proof.Proof.RefRows

@[expose] public section

noncomputable section

namespace Cert.ReferenceIdeal.Values

open Cert.ReferenceIdeal Cert.ReferenceIdeal.Gen Cert.ReferenceIdeal.Read Cert.ReferenceIdeal.Rows Cert.Attention
open Idealize.ShloMosaic Idealize.ShloMosaic.TcCoe Idealize.ShloMosaic.ValueIdx

variable (x0 : (⟨S4x2048, .f32⟩ : BufTy).Contents (Elt Ideal)) (x1 : (⟨S4096x4x2048, .f32⟩ : BufTy).Contents (Elt Ideal))
  (x2 : (⟨S4x1, .i32⟩ : BufTy).Contents (Elt Ideal)) (x3 : (⟨S2048x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal)) (x7 : (⟨S2048x1, .f32⟩ : BufTy).Contents (Elt Ideal))
  (x8 : (⟨S1, .f32⟩ : BufTy).Contents (Elt Ideal))
  (hpos : ∀ i, x2 i = 0#32)

/-- Row `p` of the padded window of batch `b`. -/
def row (b : Fin 4) (p : Fin 512) (d : Fin 2048) : EReal := if h : p.val < 256 then window x1 ⟨p.val, h⟩ b d else 0

include hpos

/-- The hidden layer. -/
theorem hidden_eq (b : Fin 4) (p : Fin 512) (u : Fin 2048) :
    val_main_v52 (F := Ideal) x0 x1 x2 x3 x4 x5 x6 (ix3 b p u)
      = Ideal.tanh ((∑ k, row x1 b p k * at2 x3 k u) + bias (at2 x0) (at2 x5) (at1 x4) (at1 x6) b u) := by
  rw [val_main_v52_apply, val_main_v51_apply, val_main_v48_apply, val_main_v45_apply, val_main_v42_apply, val_main_v44_apply,
    val_main_v43_apply, val_main_v47_apply, val_main_v46_apply, val_main_v50_apply, val_main_v49_apply]
  have h1 : ∀ k, val_main_v40 (F := Ideal) x1 x2 (lidx_main_v42 (ix3 b p u) k) = row x1 b p k := fun k =>
    (congrArg _ (by funext a; fin_cases a <;> rfl)).trans (padded x1 x2 hpos b p k)
  have h2 : ∀ k, x3 (ridx_main_v42 (ix3 b p u) k) = at2 x3 k u := fun k => congrArg x3 (by funext a; fin_cases a <;> rfl)
  have h3 : x4 (idx_main_v43 (idx_main_v44 (ix3 b p u))) = at1 x4 u := congrArg x4 (by funext a; fin_cases a; rfl)
  have h4 : ∀ k, val_main_v41 (F := Ideal) x0 (lidx_main_v46 (idx_main_v47 (ix3 b p u)) k) = at2 x0 b k := fun k => by
    rw [val_main_v41_apply]; exact congrArg x0 (by funext a; fin_cases a <;> rfl)
  have h5 : ∀ k, x5 (ridx_main_v46 (idx_main_v47 (ix3 b p u)) k) = at2 x5 k u := fun k =>
    congrArg x5 (by funext a; fin_cases a <;> rfl)
  have h6 : x6 (idx_main_v49 (idx_main_v50 (ix3 b p u))) = at1 x6 u := congrArg x6 (by funext a; fin_cases a; rfl)
  simp only [h1, h2, h3, h4, h5, h6, Ideal.addf_def]
  show Ideal.tanh _ = _
  congr 1
  unfold bias
  abel

/-- The score of a row, before `bV` is added. -/
theorem score_eq (b : Fin 4) (p : Fin 512) :
    val_main_v53 (F := Ideal) x0 x1 x2 x3 x4 x5 x6 x7 (ix3 b p 0)
      = scoreAt (at2 x0) (window x1) (at2 x3) (at2 x5) (at1 x4) (at1 x6) (column x7) b p := by
  rw [val_main_v53_apply]
  have h1 : ∀ k, lidx_main_v53 (ix3 b p 0) k = ix3 b p k := fun k => by funext a; fin_cases a <;> rfl
  have h2 : ∀ k, x7 (ridx_main_v53 (ix3 b p 0) k) = column x7 k := fun k => congrArg x7 (by funext a; fin_cases a <;> rfl)
  simp only [h1, h2, hidden_eq x0 x1 x2 x3 x4 x5 x6 hpos]
  unfold scoreAt row
  split
  · rfl
  · rw [← score_zero _ (at2 x3)]
    rfl

/-- The score of a row. -/
theorem biased_score_eq (b : Fin 4) (p : Fin 512) :
    val_main_v56 (F := Ideal) x0 x1 x2 x3 x4 x5 x6 x7 x8 (ix3 b p 0)
      = scoreAt (at2 x0) (window x1) (at2 x3) (at2 x5) (at1 x4) (at1 x6) (column x7) b p + x8 (ix1 0) := by
  rw [val_main_v56_apply, score_eq x0 x1 x2 x3 x4 x5 x6 x7 hpos, val_main_v55_apply, val_main_v54_apply]
  exact congrArg (_ + x8 ·) (by funext a; fin_cases a; rfl)

variable (hV : ∀ i, IsReal (x7 i)) (hbV : ∀ i, IsReal (x8 i))

include hV hbV

/-- The largest score of a batch is a real number. -/
theorem isReal_max (b : Fin 4) : IsReal (val_main_v59 (F := Ideal) x0 x1 x2 x3 x4 x5 x6 x7 x8 (ix2 b 0)) := by
  have hs : ∀ i, IsReal (val_main_v56 (F := Ideal) x0 x1 x2 x3 x4 x5 x6 x7 x8 i) := fun i => by
    obtain ⟨b, p, z, rfl⟩ : ∃ (b : Fin 4) (p : Fin 512) (z : Fin 1), i = ix3 b p z := ⟨_, _, _, eq_ix3 i⟩
    obtain rfl : z = 0 := Subsingleton.elim _ _
    rw [biased_score_eq x0 x1 x2 x3 x4 x5 x6 x7 x8 hpos]
    exact (isReal_scoreAt _ _ _ _ _ _ _ (fun u => hV _) _ _).add (hbV _)
  rw [val_main_v59_apply, val_main_v58_apply, val_main_cst_10_apply]
  unfold val_main_v57
  rw [Host.reduce_eq_fold_single FloatOps.maximumf _ _ reducesTo_S4x512x1_S4x1_d1 (by decide)]
  have hbot : FloatOps.ofBits (F := Ideal) .f32 0xFF800000#32 = ⊥ := by simp [Ideal.ofBits, Ideal.ieee]
  rw [val_main_cst_9_apply, hbot]
  show IsReal (max ⊥ _)
  rw [max_eq_right bot_le]
  exact isReal_fold_max (Finset.univ : Finset (Fin 512)) Finset.univ_nonempty _ fun k => hs _

/-- The attention weights. -/
theorem weight_eq (b : Fin 4) (p : Fin 512) :
    val_main_v67 (F := Ideal) x0 x1 x2 x3 x4 x5 x6 x7 x8 (ix3 b p 0)
      = weight (at2 x0) (window x1) (at2 x3) (at2 x5) (at1 x4) (at1 x6) (column x7) b p := by
  have he : ∀ i : Fin 512, val_main_v63 (F := Ideal) x0 x1 x2 x3 x4 x5 x6 x7 x8 (ix3 b i 0)
      = Ideal.exp ((((scoreAt (at2 x0) (window x1) (at2 x3) (at2 x5) (at1 x4) (at1 x6) (column x7) b i).toReal : ℝ)
        + ((x8 (ix1 0)).toReal : EReal)) - ((val_main_v59 (F := Ideal) x0 x1 x2 x3 x4 x5 x6 x7 x8 (ix2 b 0)).toReal : ℝ)) := by
    intro i
    rw [val_main_v63_apply, val_main_v62_apply, val_main_v61_apply, val_main_v60_apply,
      biased_score_eq x0 x1 x2 x3 x4 x5 x6 x7 x8 hpos, (isReal_scoreAt _ _ _ _ _ _ (column x7) (fun u => hV _) _ _).coe_toReal,
      (hbV _).coe_toReal, (isReal_max x0 x1 x2 x3 x4 x5 x6 x7 x8 hpos hV hbV b).coe_toReal]
    have hi : idx_main_v60 (idx_main_v61 (ix3 b i 0)) = ix2 b 0 := by funext a; fin_cases a <;> rfl
    rw [hi]
    rfl
  rw [val_main_v67_apply, val_main_v66_apply, val_main_v65_apply, val_main_v64_apply, he]
  have hz : (val_main_cst_11 (F := Ideal)) (Shape.Idx.first h_S_) = 0 := by rw [val_main_cst_11_apply]; simp
  have hk : ∀ k : Fin 512, idx_main_v64 (idx_main_v65 (idx_main_v66 (ix3 b p 0))) k = ix3 b k 0 := fun k => by
    funext a; fin_cases a <;> rfl
  simp only [hz, hk, he, zero_add]
  exact reference_softmax (fun i => (scoreAt (at2 x0) (window x1) (at2 x3) (at2 x5) (at1 x4) (at1 x6) (column x7) b i).toReal) _ _ p

/-- The reference's second result: the attention weights. -/
theorem weights_eq :
    val_main_v67 (F := Ideal) x0 x1 x2 x3 x4 x5 x6 x7 x8 = weights x0 x1 x3 x4 x5 x6 x7 := by
  funext i
  obtain ⟨b, p, z, rfl⟩ : ∃ (b : Fin 4) (p : Fin 512) (z : Fin 1), i = ix3 b p z := ⟨_, _, _, eq_ix3 i⟩
  obtain rfl : z = 0 := Subsingleton.elim _ _
  exact weight_eq x0 x1 x2 x3 x4 x5 x6 x7 x8 hpos hV hbV _ _

/-- The reference's first result: the contexts. -/
theorem contexts_eq :
    val_main_v70 (F := Ideal) x0 x1 x2 x3 x4 x5 x6 x7 x8 = contexts x0 x1 x3 x4 x5 x6 x7 := by
  funext i
  obtain ⟨b, d, rfl⟩ : ∃ (b : Fin 4) (d : Fin 2048), i = ix2 b d := ⟨_, _, eq_ix2 i⟩
  have hz : (val_main_cst_12 (F := Ideal)) (Shape.Idx.first h_S_) = 0 := by rw [val_main_cst_12_apply]; simp
  have hk : ∀ k : Fin 512, val_main_v69 (F := Ideal) x0 x1 x2 x3 x4 x5 x6 x7 x8 (idx_main_v70 (ix2 b d) k)
      = weight (at2 x0) (window x1) (at2 x3) (at2 x5) (at1 x4) (at1 x6) (column x7) b k * row x1 b k d := by
    intro k
    rw [val_main_v69_apply, val_main_v68_apply]
    have h1 : idx_main_v68 (idx_main_v70 (ix2 b d) k) = ix3 b k 0 := by funext a; fin_cases a <;> rfl
    have h2 : idx_main_v70 (ix2 b d) k = ix3 b k d := by funext a; fin_cases a <;> rfl
    rw [h1, h2, weight_eq x0 x1 x2 x3 x4 x5 x6 x7 x8 hpos hV hbV]
    exact congrArg (_ * ·) (padded x1 x2 hpos _ _ _)
  rw [val_main_v70_apply, hz, zero_add, Finset.sum_congr rfl fun k _ => hk k, sum_512]
  have h0 : ∀ l : Fin 256, row x1 b (Fin.natAdd 256 l) d = 0 := fun l => dif_neg (by simp)
  have h1 : ∀ l : Fin 256, row x1 b (Fin.castAdd 256 l) d = window x1 l b d := fun l => dif_pos l.isLt
  simp only [h0, h1, mul_zero, Finset.sum_const_zero, add_zero]
  rfl

end Cert.ReferenceIdeal.Values

end
-- ==== Proof.Precondition.lean ====
/- What the precondition says of the arguments: the window starts at zero, and the entries of `V` and of its bias are real
   numbers. -/
module

public import proofs.«01_k».proof.Defs
public import proofs.«01_k».proof.Proof.Spec
public import Idealize.ShloMosaic.Lib.Decide

@[expose] public section

noncomputable section

namespace Cert.Pre_at_start.Meaning

open Idealize.ShloMosaic Cert.Attention

/-- The broadcasts of the precondition fit their shapes. -/
theorem facts : Cert.Pre_at_start.Facts where
  bcast_S_S4x1 := by decide
  bcast_S_S2048x1 := by decide
  bcast_S_S1 := by decide

/-- A number whose absolute value lies below infinity is real. -/
theorem real_of_abs_lt (x : EReal) (h : max x (-x) < ⊤) : IsReal x := by
  induction x with
  | bot => simp at h
  | top => simp at h
  | coe r => exact ⟨r, rfl⟩

/-- A decision written as one bit is true when the bit is one. -/
theorem of_bit {p : Prop} [Decidable p] (h : BitVec.ofBool (decide p) = 1#1) : p := by
  by_contra hp
  rw [decide_eq_false hp] at h
  exact absurd h (by decide)

/-- The comparison with infinity, when it answers one, says that the number is real. -/
theorem real_of_cmp (x : EReal)
    (h : FloatOps.cmpf (F := Ideal) (φ := .f32) .olt (FloatOps.absf (F := Ideal) (φ := .f32) x) (FloatOps.ofBits (F := Ideal) .f32 0x7F800000#32) = 1#1) :
    IsReal x := by
  refine real_of_abs_lt x ?_
  have e : (FloatOps.ofBits (F := Ideal) .f32 0x7F800000#32 : EReal) = ⊤ := by
    show Ideal.ofBits .f32 0x7F800000#32 = ⊤
    simp [Ideal.ofBits, Ideal.ieee]
  have k : max x (-x) < (FloatOps.ofBits (F := Ideal) .f32 0x7F800000#32 : EReal) := of_bit h
  rwa [e] at k

variable [Cert.Pre_at_start.Facts]
variable (x0 : FVec Ideal S4x2048 .f32) (x1 : FVec Ideal S4096x4x2048 .f32) (x2 : IVec S4x1 32) (x3 : FVec Ideal S2048x2048 .f32)
  (x4 : FVec Ideal S2048 .f32) (x5 : FVec Ideal S2048x2048 .f32) (x6 : FVec Ideal S2048 .f32) (x7 : FVec Ideal S2048x1 .f32)
  (x8 : FVec Ideal S1 .f32)

/-- The first answer of the precondition: every position is zero. -/
theorem position_zero (h : (fn (F := Ideal) x0 x1 x2 x3 x4 x5 x6 x7 x8).1 = fun _ => 1#1) : ∀ i, x2 i = 0#32 := by
  intro i
  have e : IntOp.cmpi .eq (x2 i) 0#32 = 1#1 := congrFun h i
  by_contra hx
  have : (x2 i == 0#32) = false := by simpa using hx
  simp only [IntOp.cmpi, this] at e
  exact absurd e (by decide)

/-- The second answer of the precondition: every entry of `V` is a real number. -/
theorem V_real (h : (fn (F := Ideal) x0 x1 x2 x3 x4 x5 x6 x7 x8).2.1 = fun _ => 1#1) : ∀ i, IsReal (x7 i) :=
  fun i => real_of_cmp (x7 i) (congrFun h i)

/-- The third answer of the precondition: the bias of `V` is a real number. -/
theorem bias_real (h : (fn (F := Ideal) x0 x1 x2 x3 x4 x5 x6 x7 x8).2.2 = fun _ => 1#1) : ∀ i, IsReal (x8 i) :=
  fun i => real_of_cmp (x8 i) (congrFun h i)

end Cert.Pre_at_start.Meaning

end
-- ==== Proof.lean ====
/- The proof of the certificate's claims: the kernel and the reference run and leave their arguments unchanged, the kernel
   of extended reals is the kernel of floats idealized, and the kernel's two results are the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal.Read
public import proofs.«01_k».proof.Proof.Equation
public import proofs.«01_k».proof.Proof.RefValue
public import proofs.«01_k».proof.Proof.Precondition
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem

/-- The reference declares no semaphore, so every counter reads zero. -/
theorem reference_counters (s : MemSt Cert.ReferenceIdeal.nD Cert.ReferenceIdeal.τ Cert.ReferenceIdeal.sig (Elt Ideal)) :
    s.sem = fun _ => 0 :=
  sem_eq_zero_of_no_sems (by decide) s

/-- The reference runs, leaves its arguments unchanged and every counter at zero. -/
theorem reference_frame : Cert.quiescent_ReferenceIdeal := fun m g _ =>
  (θ_run Cert.ReferenceIdeal.defs _ _).mono (fun r h => ⟨fun c => (h c).2.2, reference_counters r.2⟩)
    (Cert.ReferenceIdeal.Value.run m g)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on a device. -/
def SameArguments (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- The precondition, of the kernel's arguments: the positions are zero, the entries of `V` and its bias are real. -/
theorem arguments_meet [Cert.Pre_at_start.Facts] (h : Cert.Pre_KernelIdeal_at_start m) (c : Dev Cert.KernelIdeal.nD) :
    (∀ i, m ((c.tc : Thread Cert.KernelIdeal.nD Cert.KernelIdeal.τ).loc Cert.KernelIdeal.main_arg2) i = 0#32)
    ∧ (∀ i, Cert.Attention.IsReal (Cert.KernelIdeal.Input.arg7 m c i))
    ∧ ∀ i, Cert.Attention.IsReal (m ((c.tc : Thread Cert.KernelIdeal.nD Cert.KernelIdeal.τ).loc Cert.KernelIdeal.main_arg8) i) :=
  ⟨Cert.Pre_at_start.Meaning.position_zero _ _ _ _ _ _ _ _ _ (h c).1,
    Cert.Pre_at_start.Meaning.V_real _ _ _ _ _ _ _ _ _ (h c).2.1,
    Cert.Pre_at_start.Meaning.bias_real _ _ _ _ _ _ _ _ _ (h c).2.2⟩

/-- The first results agree: the contexts. -/
theorem contexts_agree [Cert.Pre_at_start.Facts] (h : Cert.Pre_KernelIdeal_at_start m) (c : Dev Cert.KernelIdeal.nD)
    (e : SameArguments m m' c) :
    Cert.ReferenceIdeal.Value.res_main_v70 m' c = Cert.KernelIdeal.Run.result0 m c := by
  obtain ⟨hpos, hV, hbV⟩ := arguments_meet m h c
  obtain ⟨e0, e1, e2, e3, e4, e5, e6, e7, e8⟩ := e
  rw [Cert.ReferenceIdeal.Read.val_main_v70_eq, e0, e1, e2, e3, e4, e5, e6, e7, e8]
  exact (Cert.ReferenceIdeal.Values.contexts_eq _ _ _ _ _ _ _ _ _ hpos hV hbV).trans
    (Cert.KernelIdeal.Equation.context_eq m c hV).symm

/-- The second results agree: the attention weights. -/
theorem weights_agree [Cert.Pre_at_start.Facts] (h : Cert.Pre_KernelIdeal_at_start m) (c : Dev Cert.KernelIdeal.nD)
    (e : SameArguments m m' c) :
    Cert.ReferenceIdeal.Value.res_main_v67 m' c = Cert.KernelIdeal.Run.result3 m c := by
  obtain ⟨hpos, hV, hbV⟩ := arguments_meet m h c
  obtain ⟨e0, e1, e2, e3, e4, e5, e6, e7, e8⟩ := e
  rw [Cert.ReferenceIdeal.Read.val_main_v67_eq, e0, e1, e2, e3, e4, e5, e6, e7, e8]
  exact (Cert.ReferenceIdeal.Values.weights_eq _ _ _ _ _ _ _ _ _ hpos hV hbV).trans
    (Cert.KernelIdeal.Equation.weight_eq m c hV).symm

/-- From the same arguments, meeting the precondition, the kernel and the reference end with the same two results. -/
theorem results_agree [Cert.Pre_at_start.Facts] : Cert.algebraic_KernelIdeal_ReferenceIdeal_pre_at_start := by
  intro m g m' g' hpre hargs
  refine ⟨Cert.KernelIdeal.Run.result0 m, Cert.KernelIdeal.Run.result3 m, ?_, ?_⟩
  · exact (θ_run Cert.KernelIdeal.defs _ _).mono (fun r h c => ⟨(h.1 c).1, (h.1 c).2, h.2 c⟩)
      (θ_run_and (Cert.KernelIdeal.Run.run m g) (Cert.KernelIdeal.Gen.unchanged m g))
  · exact (θ_run Cert.ReferenceIdeal.defs _ _).mono
      (fun r h c => ⟨(h c).1.trans (contexts_agree m m' hpre c (hargs c)),
        (h c).2.1.trans (weights_agree m m' hpre c (hargs c)), (h c).2.2⟩)
      (Cert.ReferenceIdeal.Value.run m' g')

/-- Every claim of the certificate. -/
theorem claim : Cert.Claim :=
  ⟨Cert.Kernel.Gen.facts, Cert.KernelIdeal.Gen.facts, Cert.ReferenceIdeal.Gen.facts, Cert.Pre_at_start.Meaning.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    @results_agree Cert.Pre_at_start.Meaning.facts⟩

end Cert.Proof

end
